-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Pq (m : (ℓ : Loc Cert.Pq.nD Cert.Pq.τ Cert.Pq.sig) → Buf (Elt Bits) ℓ) : Prop :=
  True

def Pre_PqIdeal (m : (ℓ : Loc Cert.PqIdeal.nD Cert.PqIdeal.τ Cert.PqIdeal.sig) → Buf (Elt Ideal) ℓ) : Prop :=
  True

def Pre_PqRefIdeal (m : (ℓ : Loc Cert.PqRefIdeal.nD Cert.PqRefIdeal.τ Cert.PqRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Pq [hPq : Cert.Pq.Facts] : Prop :=
  ∀ (m : (ℓ : Loc Cert.Pq.nD Cert.Pq.τ Cert.Pq.sig) → Buf (Elt Bits) ℓ) (g : Dev Cert.Pq.nD → PrngReg), Pre_Pq m →
    θ_run (Cert.Pq.defs (F := Bits)) (onTc (τ := Cert.Pq.τ) (Cert.Pq.main (F := Bits))) ⟨m, fun _ => 0, g⟩ (fun r => (∀ c : Dev Cert.Pq.nD,
      r.2.mem ((c.tc : Thread Cert.Pq.nD Cert.Pq.τ).loc Cert.Pq.main_arg0) = m ((c.tc : Thread Cert.Pq.nD Cert.Pq.τ).loc Cert.Pq.main_arg0)
      ∧ r.2.mem ((c.tc : Thread Cert.Pq.nD Cert.Pq.τ).loc Cert.Pq.main_arg1) = m ((c.tc : Thread Cert.Pq.nD Cert.Pq.τ).loc Cert.Pq.main_arg1)
      ∧ r.2.mem ((c.tc : Thread Cert.Pq.nD Cert.Pq.τ).loc Cert.Pq.main_arg2) = m ((c.tc : Thread Cert.Pq.nD Cert.Pq.τ).loc Cert.Pq.main_arg2))
      ∧ r.2.sem = fun _ => 0)

def quiescent_PqIdeal [hPqIdeal : Cert.PqIdeal.Facts] : Prop :=
  ∀ (m : (ℓ : Loc Cert.PqIdeal.nD Cert.PqIdeal.τ Cert.PqIdeal.sig) → Buf (Elt Ideal) ℓ) (g : Dev Cert.PqIdeal.nD → PrngReg), Pre_PqIdeal m →
    θ_run (Cert.PqIdeal.defs (F := Ideal)) (onTc (τ := Cert.PqIdeal.τ) (Cert.PqIdeal.main (F := Ideal))) ⟨m, fun _ => 0, g⟩ (fun r => (∀ c : Dev Cert.PqIdeal.nD,
      r.2.mem ((c.tc : Thread Cert.PqIdeal.nD Cert.PqIdeal.τ).loc Cert.PqIdeal.main_arg0) = m ((c.tc : Thread Cert.PqIdeal.nD Cert.PqIdeal.τ).loc Cert.PqIdeal.main_arg0)
      ∧ r.2.mem ((c.tc : Thread Cert.PqIdeal.nD Cert.PqIdeal.τ).loc Cert.PqIdeal.main_arg1) = m ((c.tc : Thread Cert.PqIdeal.nD Cert.PqIdeal.τ).loc Cert.PqIdeal.main_arg1)
      ∧ r.2.mem ((c.tc : Thread Cert.PqIdeal.nD Cert.PqIdeal.τ).loc Cert.PqIdeal.main_arg2) = m ((c.tc : Thread Cert.PqIdeal.nD Cert.PqIdeal.τ).loc Cert.PqIdeal.main_arg2))
      ∧ r.2.sem = fun _ => 0)

def quiescent_PqRefIdeal [hPqRefIdeal : Cert.PqRefIdeal.Facts] : Prop :=
  ∀ (m : (ℓ : Loc Cert.PqRefIdeal.nD Cert.PqRefIdeal.τ Cert.PqRefIdeal.sig) → Buf (Elt Ideal) ℓ) (g : Dev Cert.PqRefIdeal.nD → PrngReg), Pre_PqRefIdeal m →
    θ_run (Cert.PqRefIdeal.defs (F := Ideal)) (onTc (τ := Cert.PqRefIdeal.τ) (Cert.PqRefIdeal.main (F := Ideal))) ⟨m, fun _ => 0, g⟩ (fun r => (∀ c : Dev Cert.PqRefIdeal.nD,
      r.2.mem ((c.tc : Thread Cert.PqRefIdeal.nD Cert.PqRefIdeal.τ).loc Cert.PqRefIdeal.main_arg0) = m ((c.tc : Thread Cert.PqRefIdeal.nD Cert.PqRefIdeal.τ).loc Cert.PqRefIdeal.main_arg0)
      ∧ r.2.mem ((c.tc : Thread Cert.PqRefIdeal.nD Cert.PqRefIdeal.τ).loc Cert.PqRefIdeal.main_arg1) = m ((c.tc : Thread Cert.PqRefIdeal.nD Cert.PqRefIdeal.τ).loc Cert.PqRefIdeal.main_arg1)
      ∧ r.2.mem ((c.tc : Thread Cert.PqRefIdeal.nD Cert.PqRefIdeal.τ).loc Cert.PqRefIdeal.main_arg2) = m ((c.tc : Thread Cert.PqRefIdeal.nD Cert.PqRefIdeal.τ).loc Cert.PqRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v75_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v18) = v0 c
          ∧ r.2.mem ((c.tc : Thread Cert.InRefIdeal.nD Cert.InRefIdeal.τ).loc Cert.InRefIdeal.main_v21) = v1 c
          ∧ r.2.mem ((c.tc : Thread Cert.InRefIdeal.nD Cert.InRefIdeal.τ).loc Cert.InRefIdeal.main_v24) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v9) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Pq_PqIdeal : Prop :=
  True

def algebraic_PqIdeal_PqRefIdeal [hPqIdeal : Cert.PqIdeal.Facts] [hPqRefIdeal : Cert.PqRefIdeal.Facts] : Prop :=
  ∀ (m : (ℓ : Loc Cert.PqIdeal.nD Cert.PqIdeal.τ Cert.PqIdeal.sig) → Buf (Elt Ideal) ℓ) (g : Dev Cert.PqIdeal.nD → PrngReg)
    (m' : (ℓ : Loc Cert.PqRefIdeal.nD Cert.PqRefIdeal.τ Cert.PqRefIdeal.sig) → Buf (Elt Ideal) ℓ) (g' : Dev Cert.PqRefIdeal.nD → PrngReg), Pre_PqIdeal m →
    (∀ c : Dev Cert.PqIdeal.nD,
      m' ((c.tc : Thread Cert.PqRefIdeal.nD Cert.PqRefIdeal.τ).loc Cert.PqRefIdeal.main_arg0) = m ((c.tc : Thread Cert.PqIdeal.nD Cert.PqIdeal.τ).loc Cert.PqIdeal.main_arg0)
      ∧ m' ((c.tc : Thread Cert.PqRefIdeal.nD Cert.PqRefIdeal.τ).loc Cert.PqRefIdeal.main_arg1) = m ((c.tc : Thread Cert.PqIdeal.nD Cert.PqIdeal.τ).loc Cert.PqIdeal.main_arg1)
      ∧ m' ((c.tc : Thread Cert.PqRefIdeal.nD Cert.PqRefIdeal.τ).loc Cert.PqRefIdeal.main_arg2) = m ((c.tc : Thread Cert.PqIdeal.nD Cert.PqIdeal.τ).loc Cert.PqIdeal.main_arg2)) →
    ∃ (v0 : (c : Dev Cert.PqIdeal.nD) → Buf (Elt Ideal) ((c.tc : Thread Cert.PqIdeal.nD Cert.PqIdeal.τ).loc Cert.PqIdeal.main_v3)),
      θ_run (Cert.PqIdeal.defs (F := Ideal)) (onTc (τ := Cert.PqIdeal.τ) (Cert.PqIdeal.main (F := Ideal))) ⟨m, fun _ => 0, g⟩ (fun r => ∀ c : Dev Cert.PqIdeal.nD,
          r.2.mem ((c.tc : Thread Cert.PqIdeal.nD Cert.PqIdeal.τ).loc Cert.PqIdeal.main_v3) = v0 c
          ∧ r.2.mem ((c.tc : Thread Cert.PqIdeal.nD Cert.PqIdeal.τ).loc Cert.PqIdeal.main_arg0) = m ((c.tc : Thread Cert.PqIdeal.nD Cert.PqIdeal.τ).loc Cert.PqIdeal.main_arg0)
          ∧ r.2.mem ((c.tc : Thread Cert.PqIdeal.nD Cert.PqIdeal.τ).loc Cert.PqIdeal.main_arg1) = m ((c.tc : Thread Cert.PqIdeal.nD Cert.PqIdeal.τ).loc Cert.PqIdeal.main_arg1)
          ∧ r.2.mem ((c.tc : Thread Cert.PqIdeal.nD Cert.PqIdeal.τ).loc Cert.PqIdeal.main_arg2) = m ((c.tc : Thread Cert.PqIdeal.nD Cert.PqIdeal.τ).loc Cert.PqIdeal.main_arg2))
      ∧ θ_run (Cert.PqRefIdeal.defs (F := Ideal)) (onTc (τ := Cert.PqRefIdeal.τ) (Cert.PqRefIdeal.main (F := Ideal))) ⟨m', fun _ => 0, g'⟩ (fun r => ∀ c : Dev Cert.PqRefIdeal.nD,
          r.2.mem ((c.tc : Thread Cert.PqRefIdeal.nD Cert.PqRefIdeal.τ).loc Cert.PqRefIdeal.main_v14) = v0 c
          ∧ r.2.mem ((c.tc : Thread Cert.PqRefIdeal.nD Cert.PqRefIdeal.τ).loc Cert.PqRefIdeal.main_arg0) = m' ((c.tc : Thread Cert.PqRefIdeal.nD Cert.PqRefIdeal.τ).loc Cert.PqRefIdeal.main_arg0)
          ∧ r.2.mem ((c.tc : Thread Cert.PqRefIdeal.nD Cert.PqRefIdeal.τ).loc Cert.PqRefIdeal.main_arg1) = m' ((c.tc : Thread Cert.PqRefIdeal.nD Cert.PqRefIdeal.τ).loc Cert.PqRefIdeal.main_arg1)
          ∧ r.2.mem ((c.tc : Thread Cert.PqRefIdeal.nD Cert.PqRefIdeal.τ).loc Cert.PqRefIdeal.main_arg2) = m' ((c.tc : Thread Cert.PqRefIdeal.nD Cert.PqRefIdeal.τ).loc Cert.PqRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)) →
    ∃ (v0 : (c : Dev Cert.XqIdeal.nD) → Buf (Elt Ideal) ((c.tc : Thread Cert.XqIdeal.nD Cert.XqIdeal.τ).loc Cert.XqIdeal.main_v3)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v3) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v14) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v2)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v2) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v4) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v2) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v18) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v55) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hMemKv : Cert.MemKv.Facts) (hMemKvIdeal : Cert.MemKvIdeal.Facts) (hMemKvRefIdeal : Cert.MemKvRefIdeal.Facts) (hPq : Cert.Pq.Facts) (hPqIdeal : Cert.PqIdeal.Facts) (hPqRefIdeal : Cert.PqRefIdeal.Facts) (hXq : Cert.Xq.Facts) (hXqIdeal : Cert.XqIdeal.Facts) (hXqRefIdeal : Cert.XqRefIdeal.Facts) (hOut : Cert.Out.Facts) (hOutIdeal : Cert.OutIdeal.Facts) (hOutRefIdeal : Cert.OutRefIdeal.Facts) (hXo : Cert.Xo.Facts) (hXoIdeal : Cert.XoIdeal.Facts) (hXoRefIdeal : Cert.XoRefIdeal.Facts) (hXattn : Cert.Xattn.Facts) (hXattnIdeal : Cert.XattnIdeal.Facts) (hXattnRefIdeal : Cert.XattnRefIdeal.Facts) (hMix : Cert.Mix.Facts) (hMixIdeal : Cert.MixIdeal.Facts) (hMixRefIdeal : Cert.MixRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InRefIdeal (hInRefIdeal := hInRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Pq (hPq := hPq)
    ∧ quiescent_PqIdeal (hPqIdeal := hPqIdeal)
    ∧ quiescent_PqRefIdeal (hPqRefIdeal := hPqRefIdeal)
    ∧ quiescent_Xq (hXq := hXq)
    ∧ quiescent_XqIdeal (hXqIdeal := hXqIdeal)
    ∧ quiescent_XqRefIdeal (hXqRefIdeal := hXqRefIdeal)
    ∧ quiescent_Out (hOut := hOut)
    ∧ quiescent_OutIdeal (hOutIdeal := hOutIdeal)
    ∧ quiescent_OutRefIdeal (hOutRefIdeal := hOutRefIdeal)
    ∧ quiescent_Xo (hXo := hXo)
    ∧ quiescent_XoIdeal (hXoIdeal := hXoIdeal)
    ∧ quiescent_XoRefIdeal (hXoRefIdeal := hXoRefIdeal)
    ∧ quiescent_Xattn (hXattn := hXattn)
    ∧ quiescent_XattnIdeal (hXattnIdeal := hXattnIdeal)
    ∧ quiescent_XattnRefIdeal (hXattnRefIdeal := hXattnRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InRefIdeal (hInProjIdeal := hInProjIdeal) (hInRefIdeal := hInRefIdeal)
    ∧ preserves_MemKv_MemKvIdeal
    ∧ algebraic_MemKvIdeal_MemKvRefIdeal (hMemKvIdeal := hMemKvIdeal) (hMemKvRefIdeal := hMemKvRefIdeal)
    ∧ preserves_Pq_PqIdeal
    ∧ algebraic_PqIdeal_PqRefIdeal (hPqIdeal := hPqIdeal) (hPqRefIdeal := hPqRefIdeal)
    ∧ preserves_Xq_XqIdeal
    ∧ algebraic_XqIdeal_XqRefIdeal (hXqIdeal := hXqIdeal) (hXqRefIdeal := hXqRefIdeal)
    ∧ preserves_Out_OutIdeal
    ∧ algebraic_OutIdeal_OutRefIdeal (hOutIdeal := hOutIdeal) (hOutRefIdeal := hOutRefIdeal)
    ∧ preserves_Xo_XoIdeal
    ∧ algebraic_XoIdeal_XoRefIdeal (hXoIdeal := hXoIdeal) (hXoRefIdeal := hXoRefIdeal)
    ∧ preserves_Xattn_XattnIdeal
    ∧ algebraic_XattnIdeal_XattnRefIdeal (hXattnIdeal := hXattnIdeal) (hXattnRefIdeal := hXattnRefIdeal)
    ∧ preserves_Mix_MixIdeal
    ∧ algebraic_MixIdeal_MixRefIdeal (hMixIdeal := hMixIdeal) (hMixRefIdeal := hMixRefIdeal)
-- ==== Kernel.lean ====
abbrev S4x2048x11264 : Shape := ⟨3, ![4, 2048, 11264]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4x2048x1024 : Shape := ⟨3, ![4, 2048, 1024]⟩
abbrev S4x8x128x128 : Shape := ⟨4, ![4, 8, 128, 128]⟩
abbrev S1x128x1024 : Shape := ⟨3, ![1, 128, 1024]⟩
abbrev S1x8x128x128 : Shape := ⟨4, ![1, 8, 128, 128]⟩
abbrev S128x1024 : Shape := ⟨2, ![128, 1024]⟩

abbrev nBuf : Space → Nat
  | .hbm => 91
  | .vmem => 19
  | .smem => 0
  | _ => 0

abbrev bufTy : (tb : Table) → Fin (tcTables nBuf tb) → BufTy
  | .hbm, ⟨0, _⟩ => ⟨S4x2048x11264, .f32⟩
  | .hbm, ⟨1, _⟩ => ⟨S2048, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S2048x64, .f32⟩
  | .hbm, ⟨20, _⟩ => ⟨S2048x128, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S128, .f32⟩
  | .hbm, ⟨32, _⟩ => ⟨S128x1, .f32⟩
  | .hbm, ⟨33, _⟩ => ⟨S1x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .i1⟩
  | .hbm, ⟨40, _⟩ => ⟨S1x128x128, .i1⟩
  | .hbm, ⟨41, _⟩ => ⟨S_, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S8x1x1, .f32⟩
  | .hbm, ⟨47, _⟩ => ⟨S8x128x128, .f32⟩
  | .hbm, ⟨48, _⟩ => ⟨S8x128x128, .f32⟩
  | .hbm, ⟨49, _⟩ => ⟨S8x128x128, .f32⟩
  | .hbm, ⟨50, _⟩ => ⟨S8x128x128, .f32⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S8x1, .f32⟩
  | .hbm, ⟨61, _⟩ => ⟨S8x128, .f32⟩
  | .hbm, ⟨62, _⟩ => ⟨S8x128, .f32⟩
  | .hbm, ⟨63, _⟩ => ⟨S8x128, .f32⟩
  | .hbm, ⟨64, _⟩ => ⟨S8x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S8x1, .f32⟩
  | .hbm, ⟨70, _⟩ => ⟨S8x128, .f32⟩
  | .hbm, ⟨71, _⟩ => ⟨S8x128, .f32⟩
  | .hbm, ⟨72, _⟩ => ⟨S8x128, .f32⟩
  | .hbm, ⟨73, _⟩ => ⟨S8x128, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8x128x128, .f32⟩
  | .hbm, ⟨80, _⟩ => ⟨S8x128x1, .f32⟩
  | .hbm, ⟨81, _⟩ => ⟨S8x128x128, .f32⟩
  | .hbm, ⟨82, _⟩ => ⟨S8x128x128, .f32⟩
  | .hbm, ⟨83, _⟩ => ⟨S8x128x1, .f32⟩
  | .hbm, ⟨84, _⟩ => ⟨S8x128x128, .f32⟩
  | .hbm, ⟨85, _⟩ => ⟨S8x128x128, .f32⟩
  | .hbm, ⟨86, _⟩ => ⟨S8x1x1, .f32⟩
  | .hbm, ⟨87, _⟩ => ⟨S8x128x128, .f32⟩
  | .hbm, ⟨88, _⟩ => ⟨S8x128x128, .f32⟩
  | .hbm, ⟨89, _⟩ => ⟨S4x2048x1024, .f32⟩
  | .hbm, ⟨90, _⟩ => ⟨S4x8x128x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S8x128x128, .f32⟩
  | _, _ => ⟨S4x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72_0 : Ref sig .tc := ⟨.hbm, 89, rfl⟩
abbrev main_v72_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v373 : BitVec 1 := Scalar.cmpi .eq arg1 c15_i32
  let v374 : BitVec 32 := Scalar.extui v373
  let c0_i32_221 : BitVec 32 := 0#32
  let v375 : BitVec 1 := Scalar.cmpi .ne v374 c0_i32_221
  v375

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x2048x11264 : Shape := ⟨3, ![4, 2048, 11264]⟩
abbrev S2048 : Shape := ⟨1, ![2048]⟩
abbrev S4x2048x1024 : Shape := ⟨3, ![4, 2048, 1024]⟩
abbrev S4x2048x8x128 : Shape := ⟨4, ![4, 2048, 8, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x8x128x128 : Shape := ⟨4, ![4, 8, 128, 128]⟩
abbrev S4x16x128x8x128 : Shape := ⟨5, ![4, 16, 128, 8, 128]⟩
abbrev S16x4x8x128x128 : Shape := ⟨5, ![16, 4, 8, 128, 128]⟩
abbrev S1x4x8x128x128 : Shape := ⟨5, ![1, 4, 8, 128, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩

abbrev nBuf : Space → Nat
  | .hbm => 196
  | .vmem => 0
  | .smem => 0
  | _ => 0

abbrev hbmTy0_0 (i : Nat) : BufTy := match i % 128 with
  | 0 => ⟨S4x2048x11264, .f32⟩
  | 1 => ⟨S2048, .i32⟩
  | 2 => ⟨S4x2048x1024, .f32⟩
  | 3 => ⟨S4x2048x1024, .f32⟩
  | 4 => ⟨S4x2048x1024, .f32⟩
  | 5 => ⟨S4x2048x8x128, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S64, .f32⟩
  | 14 => ⟨S2048, .f32⟩
  | 15 => ⟨S2048x1, .f32⟩
  | 16 => ⟨S1x64, .f32⟩
  | 17 => ⟨S2048x64, .f32⟩
  | 18 => ⟨S2048x64, .f32⟩
  | 19 => ⟨S2048x64, .f32⟩
  | 20 => ⟨S2048x64, .f32⟩
  | 21 => ⟨S1x2048x1x64, .f32⟩
  | 22 => ⟨S2048x64, .f32⟩
  | 23 => ⟨S1x2048x1x64, .f32⟩
  | 24 => ⟨S4x2048x8x64, .f32⟩
  | 25 => ⟨S4x2048x8x64, .f32⟩
  | 26 => ⟨S4x2048x8x64, .f32⟩
  | 27 => ⟨S4x2048x8x64, .f32⟩
  | 28 => ⟨S4x2048x8x64, .f32⟩
  | 29 => ⟨S4x2048x8x64, .f32⟩
  | 30 => ⟨S4x2048x8x64, .f32⟩
  | 31 => ⟨S4x2048x8x64, .f32⟩
  | 32 => ⟨S4x2048x8x64, .f32⟩
  | 33 => ⟨S4x2048x8x64, .f32⟩
  | 34 => ⟨S4x2048x8x64, .f32⟩
  | 35 => ⟨S4x2048x8x64, .f32⟩
  | 36 => ⟨S4x2048x8x128, .f32⟩
  | 37 => ⟨S4x2048x8x128, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S2048, .f32⟩
  | 47 => ⟨S2048x1, .f32⟩
  | 48 => ⟨S1x64, .f32⟩
  | 49 => ⟨S2048x64, .f32⟩
  | 50 => ⟨S2048x64, .f32⟩
  | 51 => ⟨S2048x64, .f32⟩
  | 52 => ⟨S2048x64, .f32⟩
  | 53 => ⟨S1x2048x1x64, .f32⟩
  | 54 => ⟨S2048x64, .f32⟩
  | 55 => ⟨S1x2048x1x64, .f32⟩
  | 56 => ⟨S4x2048x8x64, .f32⟩
  | 57 => ⟨S4x2048x8x64, .f32⟩
  | 58 => ⟨S4x2048x8x64, .f32⟩
  | 59 => ⟨S4x2048x8x64, .f32⟩
  | 60 => ⟨S4x2048x8x64, .f32⟩
  | 61 => ⟨S4x2048x8x64, .f32⟩
  | 62 => ⟨S4x2048x8x64, .f32⟩
  | 63 => ⟨S4x2048x8x64, .f32⟩
  | 64 => ⟨S4x2048x8x64, .f32⟩
  | 65 => ⟨S4x2048x8x64, .f32⟩
  | 66 => ⟨S4x2048x8x64, .f32⟩
  | 67 => ⟨S4x2048x8x64, .f32⟩
  | 68 => ⟨S4x2048x8x128, .f32⟩
  | 69 => ⟨S_, .f32⟩
  | 70 => ⟨S4x2048x8x128, .f32⟩
  | 71 => ⟨S4x2048x8x128, .f32⟩
  | 72 => ⟨S4x2048x8x128, .f32⟩
  | 73 => ⟨S_, .f32⟩
  | 74 => ⟨S4x8x128x128, .f32⟩
  | 75 => ⟨S4x16x128x8x128, .f32⟩
  | 76 => ⟨S16x4x8x128x128, .f32⟩
  | 77 => ⟨S4x16x128x8x128, .f32⟩
  | 78 => ⟨S16x4x8x128x128, .f32⟩
  | 79 => ⟨S4x16x128x8x128, .f32⟩
  | 80 => ⟨S16x4x8x128x128, .f32⟩
  | 81 => ⟨S_, .f32⟩
  | 82 => ⟨S16x4x8x128x128, .f32⟩
  | 83 => ⟨S_, .i32⟩
  | 84 => ⟨S16x4x8x128x128, .f32⟩
  | 85 => ⟨S16x4x8x128x128, .f32⟩
  | 86 => ⟨S16x4x8x128x128, .f32⟩
  | 87 => ⟨S_, .i32⟩
  | 88 => ⟨S4x8x128x128, .f32⟩
  | 89 => ⟨S16x4x8x128x128, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x4x8x128x128, .f32⟩
  | 97 => ⟨S4x8x128x128, .f32⟩
  | 98 => ⟨S_, .i32⟩
  | 99 => ⟨S_, .i32⟩
  | 100 => ⟨S_, .i32⟩
  | 101 => ⟨S_, .i32⟩
  | 102 => ⟨S1x4x8x128x128, .f32⟩
  | 103 => ⟨S4x8x128x128, .f32⟩
  | 104 => ⟨S_, .i32⟩
  | 105 => ⟨S_, .i32⟩
  | 106 => ⟨S_, .i32⟩
  | 107 => ⟨S_, .i32⟩
  | 108 => ⟨S1x4x8x128x128, .f32⟩
  | 109 => ⟨S4x8x128x128, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S8, .f32⟩
  | 118 => ⟨S8, .f32⟩
  | 119 => ⟨S8, .f32⟩
  | 120 => ⟨S128, .f32⟩
  | 121 => ⟨S128x1, .f32⟩
  | 122 => ⟨S1x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S4x2048x11264, .f32⟩

abbrev hbmTy0_1 (i : Nat) : BufTy := match i % 128 with
  | 0 => ⟨S128x128, .i1⟩
  | 1 => ⟨S1x128x128, .i1⟩
  | 2 => ⟨S_, .f32⟩
  | 3 => ⟨S_, .f32⟩
  | 4 => ⟨S128x128, .f32⟩
  | 5 => ⟨S128x128, .f32⟩
  | 6 => ⟨S1x128x128, .f32⟩
  | 7 => ⟨S8x1x1, .f32⟩
  | 8 => ⟨S8x128x128, .f32⟩
  | 9 => ⟨S8x128x128, .f32⟩
  | 10 => ⟨S8x128x128, .f32⟩
  | 11 => ⟨S8x128x128, .f32⟩
  | 12 => ⟨S_, .f32⟩
  | 13 => ⟨S_, .f32⟩
  | 14 => ⟨S8x128x128, .i1⟩
  | 15 => ⟨S8x128x128, .f32⟩
  | 16 => ⟨S8x128x128, .f32⟩
  | 17 => ⟨S_, .f32⟩
  | 18 => ⟨S128, .f32⟩
  | 19 => ⟨S128, .f32⟩
  | 20 => ⟨S1x128, .f32⟩
  | 21 => ⟨S8x1, .f32⟩
  | 22 => ⟨S8x128, .f32⟩
  | 23 => ⟨S8x128, .f32⟩
  | 24 => ⟨S8x128, .f32⟩
  | 25 => ⟨S8x128, .f32⟩
  | 26 => ⟨S_, .f32⟩
  | 27 => ⟨S128, .f32⟩
  | 28 => ⟨S128, .f32⟩
  | 29 => ⟨S1x128, .f32⟩
  | 30 => ⟨S8x1, .f32⟩
  | 31 => ⟨S8x128, .f32⟩
  | 32 => ⟨S8x128, .f32⟩
  | 33 => ⟨S8x128, .f32⟩
  | 34 => ⟨S8x128, .f32⟩
  | 35 => ⟨S_, .f32⟩
  | 36 => ⟨S8, .f32⟩
  | 37 => ⟨S8, .f32⟩
  | 38 => ⟨S8, .f32⟩
  | 39 => ⟨S4x8x128x128, .f32⟩
  | 40 => ⟨S1x8x128x128, .f32⟩
  | 41 => ⟨S4x8x128x128, .f32⟩
  | 42 => ⟨S4x8x128x128, .f32⟩
  | 43 => ⟨S4x8x128x128, .f32⟩
  | 44 => ⟨S4x8x128x128, .f32⟩
  | 45 => ⟨S1x8x128x1, .f32⟩
  | 46 => ⟨S4x8x128x128, .f32⟩
  | 47 => ⟨S4x8x128x128, .f32⟩
  | 48 => ⟨S1x8x1x1, .f32⟩
  | 49 => ⟨S4x8x128x128, .f32⟩
  | 50 => ⟨S4x8x128x128, .f32⟩
  | 51 => ⟨S1x8x128x1, .f32⟩
  | 52 => ⟨S4x8x128x128, .f32⟩
  | 53 => ⟨S4x8x128x128, .f32⟩
  | 54 => ⟨S4x8x128x128, .f32⟩
  | 55 => ⟨S4x8x128x128, .f32⟩
  | 56 => ⟨S4x8x128x128, .f32⟩
  | 57 => ⟨S1x4x8x128x128, .f32⟩
  | 58 => ⟨S_, .i32⟩
  | 59 => ⟨S_, .i32⟩
  | 60 => ⟨S_, .i32⟩
  | 61 => ⟨S_, .i32⟩
  | 62 => ⟨S16x4x8x128x128, .f32⟩
  | 63 => ⟨S_, .i32⟩
  | 64 => ⟨S_, .i32⟩
  | 65 => ⟨S4x16x128x8x128, .f32⟩
  | 66 => ⟨S4x2048x8x128, .f32⟩
  | 67 => ⟨S4x2048x1024, .f32⟩
  | _ => ⟨S4x2048x11264, .f32⟩

abbrev hbmTy (i : Nat) : BufTy := match i / 128 with
  | 0 => hbmTy0_0 i
  | 1 => hbmTy0_1 i
  | _ => ⟨S4x2048x11264, .f32⟩

abbrev bufTy : (tb : Table) → Fin (tcTables nBuf tb) → BufTy
  | .hbm, ⟨i, _⟩ => hbmTy i
  | _, _ => ⟨S4x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_cst_1 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_cst_3 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_cst_4 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_c : Ref sig .tc := ⟨.hbm, 83, rfl⟩
abbrev main_v75_0 : Ref sig .tc := ⟨.hbm, 84, rfl⟩
abbrev main_v75_1 : Ref sig .tc := ⟨.hbm, 85, rfl⟩
abbrev main_v75_2 : Ref sig .tc := ⟨.hbm, 86, rfl⟩
abbrev main_v75_3 : Ref sig .tc := ⟨.hbm, 87, rfl⟩
abbrev main_v75_4 : Ref sig .tc := ⟨.hbm, 88, rfl⟩
abbrev main_v75_5 : Ref sig .tc := ⟨.hbm, 89, rfl⟩
abbrev main_while0c_c_11 : Ref sig .tc := ⟨.hbm, 90, rfl⟩
abbrev main_while0c_v79 : Ref sig .tc := ⟨.hbm, 91, rfl⟩
abbrev main_while0b_call0_c : Ref sig .tc := ⟨.hbm, 92, rfl⟩
abbrev main_while0b_call0_c_0 : Ref sig .tc := ⟨.hbm, 93, rfl⟩
abbrev main_while0b_call0_c_1 : Ref sig .tc := ⟨.hbm, 94, rfl⟩
abbrev main_while0b_call0_c_2 : Ref sig .tc := ⟨.hbm, 95, rfl⟩
abbrev main_while0b_call0_v0 : Ref sig .tc := ⟨.hbm, 96, rfl⟩
abbrev main_while0b_v79 : Ref sig .tc := ⟨.hbm, 97, rfl⟩
abbrev main_while0b_call1_c : Ref sig .tc := ⟨.hbm, 98, rfl⟩
abbrev main_while0b_call1_c_0 : Ref sig .tc := ⟨.hbm, 99, rfl⟩
abbrev main_while0b_call1_c_1 : Ref sig .tc := ⟨.hbm, 100, rfl⟩
abbrev main_while0b_call1_c_2 : Ref sig .tc := ⟨.hbm, 101, rfl⟩
abbrev main_while0b_call1_v0 : Ref sig .tc := ⟨.hbm, 102, rfl⟩
abbrev main_while0b_v80 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_v0 : Ref sig .tc := ⟨.hbm, 108, rfl⟩
abbrev main_while0b_v81 : Ref sig .tc := ⟨.hbm, 109, rfl⟩
abbrev main_while0b_v82 : Ref sig .tc := ⟨.hbm, 110, rfl⟩
abbrev main_while0b_cst_11 : Ref sig .tc := ⟨.hbm, 111, rfl⟩
abbrev main_while0b_v83 : Ref sig .tc := ⟨.hbm, 112, rfl⟩
abbrev main_while0b_v84 : Ref sig .tc := ⟨.hbm, 113, rfl⟩
abbrev main_while0b_cst_12 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_v92 : Ref sig .tc := ⟨.hbm, 122, rfl⟩
abbrev main_while0b_v93 : Ref sig .tc := ⟨.hbm, 123, rfl⟩
abbrev main_while0b_v94 : Ref sig .tc := ⟨.hbm, 124, rfl⟩
abbrev main_while0b_v95 : Ref sig .tc := ⟨.hbm, 125, rfl⟩
abbrev main_while0b_cst_13 : Ref sig .tc := ⟨.hbm, 126, rfl⟩
abbrev main_while0b_v96 : Ref sig .tc := ⟨.hbm, 127, rfl⟩
abbrev main_while0b_v97 : Ref sig .tc := ⟨.hbm, 128, rfl⟩
abbrev main_while0b_v98 : Ref sig .tc := ⟨.hbm, 129, rfl⟩
abbrev main_while0b_cst_14 : Ref sig .tc := ⟨.hbm, 130, rfl⟩
abbrev main_while0b_call3_v0 : Ref sig .tc := ⟨.hbm, 131, rfl⟩
abbrev main_while0b_call3_v1 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_cst_15 : Ref sig .tc := ⟨.hbm, 140, rfl⟩
abbrev main_while0b_call4_v0 : Ref sig .tc := ⟨.hbm, 141, rfl⟩
abbrev main_while0b_call4_v1 : Ref sig .tc := ⟨.hbm, 142, rfl⟩
abbrev main_while0b_call4_v2 : Ref sig .tc := ⟨.hbm, 143, rfl⟩
abbrev main_while0b_v106 : Ref sig .tc := ⟨.hbm, 144, rfl⟩
abbrev main_while0b_cst_16 : Ref sig .tc := ⟨.hbm, 145, rfl⟩
abbrev main_while0b_v107 : Ref sig .tc := ⟨.hbm, 146, rfl⟩
abbrev main_while0b_v108 : Ref sig .tc := ⟨.hbm, 147, rfl⟩
abbrev main_while0b_v109 : Ref sig .tc := ⟨.hbm, 148, rfl⟩
abbrev main_while0b_v110 : Ref sig .tc := ⟨.hbm, 149, rfl⟩
abbrev main_while0b_v111 : Ref sig .tc := ⟨.hbm, 150, rfl⟩
abbrev main_while0b_v112 : Ref sig .tc := ⟨.hbm, 151, rfl⟩
abbrev main_while0b_v113 : Ref sig .tc := ⟨.hbm, 152, rfl⟩
abbrev main_while0b_v114 : Ref sig .tc := ⟨.hbm, 153, rfl⟩
abbrev main_while0b_cst_17 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_v122 : Ref sig .tc := ⟨.hbm, 162, rfl⟩
abbrev main_while0b_cst_18 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_v139 : Ref sig .tc := ⟨.hbm, 180, rfl⟩
abbrev main_while0b_v140 : Ref sig .tc := ⟨.hbm, 181, rfl⟩
abbrev main_while0b_v141 : Ref sig .tc := ⟨.hbm, 182, rfl⟩
abbrev main_while0b_v142 : Ref sig .tc := ⟨.hbm, 183, rfl⟩
abbrev main_while0b_v143 : Ref sig .tc := ⟨.hbm, 184, rfl⟩
abbrev main_while0b_call5_v0 : Ref sig .tc := ⟨.hbm, 185, rfl⟩
abbrev main_while0b_call5_c : Ref sig .tc := ⟨.hbm, 186, rfl⟩
abbrev main_while0b_call5_c_0 : Ref sig .tc := ⟨.hbm, 187, rfl⟩
abbrev main_while0b_call5_c_1 : Ref sig .tc := ⟨.hbm, 188, rfl⟩
abbrev main_while0b_call5_c_2 : Ref sig .tc := ⟨.hbm, 189, rfl⟩
abbrev main_while0b_v144 : Ref sig .tc := ⟨.hbm, 190, rfl⟩
abbrev main_while0b_c_19 : Ref sig .tc := ⟨.hbm, 191, rfl⟩
abbrev main_while0b_v145 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩

abbrev nD : Nat := 1
abbrev τ : Topo := Topo.v7x

variable {F : FTy → Type} [FloatOps F]

abbrev main_while0_count : Scf.Loop 32 := ⟨0#32, 16#32, 1#32⟩
-- ==== InProj.lean ====
abbrev S4x2048x2048 : Shape := ⟨3, ![4, 2048, 2048]⟩
abbrev S2048 : Shape := ⟨1, ![2048]⟩
abbrev S2048x11264 : Shape := ⟨2, ![2048, 11264]⟩
abbrev S8192x2048 : Shape := ⟨2, ![8192, 2048]⟩
abbrev S1x2048 : Shape := ⟨2, ![1, 2048]⟩
abbrev S8192x11264 : Shape := ⟨2, ![8192, 11264]⟩
abbrev S8192x8x128 : Shape := ⟨3, ![8192, 8, 128]⟩
abbrev S1024x2048 : Shape := ⟨2, ![1024, 2048]⟩
abbrev S2048x512 : Shape := ⟨2, ![2048, 512]⟩
abbrev S1024x512 : Shape := ⟨2, ![1024, 512]⟩
abbrev S1024x8x128 : Shape := ⟨3, ![1024, 8, 128]⟩
abbrev S1024 : Shape := ⟨1, ![1024]⟩
abbrev S1024x1 : Shape := ⟨2, ![1024, 1]⟩
abbrev S1024x128 : Shape := ⟨2, ![1024, 128]⟩
abbrev S1024x1x128 : Shape := ⟨3, ![1024, 1, 128]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x11264, .f32⟩
  | .hbm, ⟨3, _⟩ => ⟨S8192x2048, .f32⟩
  | .hbm, ⟨4, _⟩ => ⟨S2048x11264, .bf16⟩
  | .hbm, ⟨5, _⟩ => ⟨S1x2048, .f32⟩
  | .hbm, ⟨6, _⟩ => ⟨S8192x11264, .f32⟩
  | .hbm, ⟨7, _⟩ => ⟨S8192x8x128, .f32⟩
  | .hbm, ⟨8, _⟩ => ⟨S8192x8x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x8x128, .f32⟩
  | .local _ .vmem, ⟨8, _⟩ => ⟨S1024x8x128, .f32⟩
  | .local _ .vmem, ⟨9, _⟩ => ⟨S1024x8x128, .f32⟩
  | .local _ .vmem, ⟨10, _⟩ => ⟨S1024x8x128, .f32⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg1 : BitVec 32 := BitVec.ofNat 32 (i 1).val
  let c10_i32 : BitVec 32 := 10#32
  let v8 : BitVec 1 := Scalar.cmpi .eq arg1 c10_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c11_i32 : BitVec 32 := 11#32
  let v11 : BitVec 1 := Scalar.cmpi .eq arg1 c11_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c12_i32 : BitVec 32 := 12#32
  let v14 : BitVec 1 := Scalar.cmpi .eq arg1 c12_i32
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c13_i32 : BitVec 32 := 13#32
  let v17 : BitVec 1 := Scalar.cmpi .eq arg1 c13_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InRefIdeal.lean ====
abbrev S4x2048x2048 : Shape := ⟨3, ![4, 2048, 2048]⟩
abbrev S2048 : Shape := ⟨1, ![2048]⟩
abbrev S2048x11264 : Shape := ⟨2, ![2048, 11264]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2048x1024 : Shape := ⟨3, ![4, 2048, 1024]⟩
abbrev S4x2048x4x256 : Shape := ⟨4, ![4, 2048, 4, 256]⟩
abbrev S8192x11264 : Shape := ⟨2, ![8192, 11264]⟩
abbrev S8192x4x2x128 : Shape := ⟨4, ![8192, 4, 2, 128]⟩
abbrev S8192x2x4x128 : Shape := ⟨4, ![8192, 2, 4, 128]⟩
abbrev S8192x8x128 : Shape := ⟨3, ![8192, 8, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x11264, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x11264, .f32⟩
  | .hbm, ⟨20, _⟩ => ⟨S4x2048x1024, .f32⟩
  | .hbm, ⟨21, _⟩ => ⟨S4x2048x4x256, .f32⟩
  | .hbm, ⟨22, _⟩ => ⟨S4x2048x1024, .f32⟩
  | .hbm, ⟨23, _⟩ => ⟨S4x2048x4x256, .f32⟩
  | .hbm, ⟨24, _⟩ => ⟨S8192x11264, .f32⟩
  | .hbm, ⟨25, _⟩ => ⟨S8192x4x2x128, .f32⟩
  | .hbm, ⟨26, _⟩ => ⟨S8192x2x4x128, .f32⟩
  | .hbm, ⟨27, _⟩ => ⟨S8192x8x128, .f32⟩
  | .hbm, ⟨28, _⟩ => ⟨S8192x4x2x128, .f32⟩
  | .hbm, ⟨29, _⟩ => ⟨S8192x2x4x128, .f32⟩
  | .hbm, ⟨30, _⟩ => ⟨S8192x8x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== MemKv.lean ====
abbrev S4x256x2048 : Shape := ⟨3, ![4, 256, 2048]⟩
abbrev S2048x1024 : Shape := ⟨2, ![2048, 1024]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S2048x1024, .f32⟩
  | .hbm, ⟨2, _⟩ => ⟨S1024x2048, .f32⟩
  | .hbm, ⟨3, _⟩ => ⟨S2048x1024, .bf16⟩
  | .hbm, ⟨4, _⟩ => ⟨S1024x1024, .f32⟩
  | .local _ .vmem, ⟨0, _⟩ => ⟨S1024x2048, .f32⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S4x256x2048 : Shape := ⟨3, ![4, 256, 2048]⟩
abbrev S2048x1024 : Shape := ⟨2, ![2048, 1024]⟩
abbrev S4x256x1024 : Shape := ⟨3, ![4, 256, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048x1024, .f32⟩
  | .hbm, ⟨2, _⟩ => ⟨S4x256x1024, .f32⟩
  | .hbm, ⟨3, _⟩ => ⟨S4x256x2x4x128, .f32⟩
  | .hbm, ⟨4, _⟩ => ⟨S4x256x1x4x128, .f32⟩
  | .hbm, ⟨5, _⟩ => ⟨S4x256x4x128, .f32⟩
  | .hbm, ⟨6, _⟩ => ⟨S4x256x1x4x128, .f32⟩
  | .hbm, ⟨7, _⟩ => ⟨S4x256x4x128, .f32⟩
  | .hbm, ⟨8, _⟩ => ⟨S4x256x1x4x128, .f32⟩
  | .hbm, ⟨9, _⟩ => ⟨S4x256x1x4x128, .f32⟩
  | .hbm, ⟨10, _⟩ => ⟨S4x256x2x4x128, .f32⟩
  | .hbm, ⟨11, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Pq.lean ====
abbrev S4x2048x2048 : Shape := ⟨3, ![4, 2048, 2048]⟩
abbrev S2048 : Shape := ⟨1, ![2048]⟩
abbrev S2048x2048 : Shape := ⟨2, ![2048, 2048]⟩
abbrev S8192x2048 : Shape := ⟨2, ![8192, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PqRefIdeal.lean ====
abbrev S4x2048x2048 : Shape := ⟨3, ![4, 2048, 2048]⟩
abbrev S2048 : Shape := ⟨1, ![2048]⟩
abbrev S2048x2048 : Shape := ⟨2, ![2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | .hbm, ⟨20, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Xq.lean ====
abbrev S4x2048x2048 : Shape := ⟨3, ![4, 2048, 2048]⟩
abbrev S2048 : Shape := ⟨1, ![2048]⟩
abbrev S2048x512 : Shape := ⟨2, ![2048, 512]⟩
abbrev S8192x2048 : Shape := ⟨2, ![8192, 2048]⟩
abbrev S1x2048 : Shape := ⟨2, ![1, 2048]⟩
abbrev S8192x512 : Shape := ⟨2, ![8192, 512]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x512, .f32⟩
  | .hbm, ⟨3, _⟩ => ⟨S8192x2048, .f32⟩
  | .hbm, ⟨4, _⟩ => ⟨S2048x512, .bf16⟩
  | .hbm, ⟨5, _⟩ => ⟨S1x2048, .f32⟩
  | .hbm, ⟨6, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XqRefIdeal.lean ====
abbrev S4x2048x2048 : Shape := ⟨3, ![4, 2048, 2048]⟩
abbrev S2048 : Shape := ⟨1, ![2048]⟩
abbrev S2048x512 : Shape := ⟨2, ![2048, 512]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S8192x512 : Shape := ⟨2, ![8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x512, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x512, .f32⟩
  | .hbm, ⟨20, _⟩ => ⟨S8192x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Out.lean ====
abbrev S4x2048x2048 : Shape := ⟨3, ![4, 2048, 2048]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S2048x2048, .f32⟩
  | .hbm, ⟨3, _⟩ => ⟨S2048x2048, .bf16⟩
  | .hbm, ⟨4, _⟩ => ⟨S8192x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S4x2048x2048 : Shape := ⟨3, ![4, 2048, 2048]⟩
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S2048x2048, .f32⟩
  | .hbm, ⟨3, _⟩ => ⟨S4x2048x2048, .bf16⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Xo.lean ====
abbrev S4x2048x2048 : Shape := ⟨3, ![4, 2048, 2048]⟩
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x512, .bf16⟩
  | .hbm, ⟨2, _⟩ => ⟨S512x2048, .f32⟩
  | .hbm, ⟨3, _⟩ => ⟨S512x2048, .bf16⟩
  | .hbm, ⟨4, _⟩ => ⟨S8192x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XoRefIdeal.lean ====
abbrev S4x2048x2048 : Shape := ⟨3, ![4, 2048, 2048]⟩
abbrev S8192x512 : Shape := ⟨2, ![8192, 512]⟩
abbrev S512x2048 : Shape := ⟨2, ![512, 2048]⟩
abbrev S4x2048x512 : Shape := ⟨3, ![4, 2048, 512]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x512, .bf16⟩
  | .hbm, ⟨2, _⟩ => ⟨S512x2048, .f32⟩
  | .hbm, ⟨3, _⟩ => ⟨S4x2048x512, .bf16⟩
  | .hbm, ⟨4, _⟩ => ⟨S4x2048x512, .f32⟩
  | .hbm, ⟨5, _⟩ => ⟨S4x2048x2048, .f32⟩
  | .hbm, ⟨6, _⟩ => ⟨S4x2048x2048, .f32⟩
  | .hbm, ⟨7, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Xattn.lean ====
abbrev S4x2048x512 : Shape := ⟨3, ![4, 2048, 512]⟩
abbrev S4x256x4x128 : Shape := ⟨4, ![4, 256, 4, 128]⟩
abbrev S4x256x512 : Shape := ⟨3, ![4, 256, 512]⟩
abbrev S1x512x512 : Shape := ⟨3, ![1, 512, 512]⟩
abbrev S1x256x512 : Shape := ⟨3, ![1, 256, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x512, .f32⟩
  | .hbm, ⟨1, _⟩ => ⟨S4x256x4x128, .f32⟩
  | .hbm, ⟨2, _⟩ => ⟨S4x256x4x128, .f32⟩
  | .hbm, ⟨3, _⟩ => ⟨S4x256x512, .f32⟩
  | .hbm, ⟨4, _⟩ => ⟨S4x256x512, .f32⟩
  | .hbm, ⟨5, _⟩ => ⟨S4x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XattnRefIdeal.lean ====
abbrev S4x2048x512 : Shape := ⟨3, ![4, 2048, 512]⟩
abbrev S4x256x4x128 : Shape := ⟨4, ![4, 256, 4, 128]⟩
abbrev S4x2048x4x128 : Shape := ⟨4, ![4, 2048, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x256x4x128, .f32⟩
  | .hbm, ⟨2, _⟩ => ⟨S4x256x4x128, .f32⟩
  | .hbm, ⟨3, _⟩ => ⟨S4x2048x4x128, .f32⟩
  | .hbm, ⟨4, _⟩ => ⟨S4x4x2048x256, .f32⟩
  | .hbm, ⟨5, _⟩ => ⟨S_, .f32⟩
  | .hbm, ⟨6, _⟩ => ⟨S4x4x2048x256, .f32⟩
  | .hbm, ⟨7, _⟩ => ⟨S4x4x2048x256, .f32⟩
  | .hbm, ⟨8, _⟩ => ⟨S_, .f32⟩
  | .hbm, ⟨9, _⟩ => ⟨S4x4x2048, .f32⟩
  | .hbm, ⟨10, _⟩ => ⟨S_, .f32⟩
  | .hbm, ⟨11, _⟩ => ⟨S4x4x2048, .f32⟩
  | .hbm, ⟨12, _⟩ => ⟨S4x4x2048, .f32⟩
  | .hbm, ⟨13, _⟩ => ⟨S4x4x2048x1, .f32⟩
  | .hbm, ⟨14, _⟩ => ⟨S4x4x2048x256, .f32⟩
  | .hbm, ⟨15, _⟩ => ⟨S4x4x2048x256, .f32⟩
  | .hbm, ⟨16, _⟩ => ⟨S4x4x2048x256, .f32⟩
  | .hbm, ⟨17, _⟩ => ⟨S_, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x128x2048, .f32⟩
  | .hbm, ⟨23, _⟩ => ⟨S4x2048x4x128, .f32⟩
  | .hbm, ⟨24, _⟩ => ⟨S4x2048x512, .f32⟩
  | .hbm, ⟨25, _⟩ => ⟨S4x2048x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Mix.lean ====
abbrev S8192x11264 : Shape := ⟨2, ![8192, 11264]⟩
abbrev S8192x1024 : Shape := ⟨2, ![8192, 1024]⟩
abbrev S1024 : Shape := ⟨1, ![1024]⟩
abbrev S256 : Shape := ⟨1, ![256]⟩
abbrev S1024x2048 : Shape := ⟨2, ![1024, 2048]⟩
abbrev S1x1024 : Shape := ⟨2, ![1, 1024]⟩
abbrev S1x256 : Shape := ⟨2, ![1, 256]⟩
abbrev S8192x2048 : Shape := ⟨2, ![8192, 2048]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S512x256 : Shape := ⟨2, ![512, 256]⟩

abbrev nBuf : Space → Nat
  | .hbm => 12
  | .vmem => 20
  | .smem => 0
  | _ => 0

abbrev bufTy : (tb : Table) → Fin (tcTables nBuf tb) → BufTy
  | .hbm, ⟨0, _⟩ => ⟨S8192x11264, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S256, .f32⟩
  | .hbm, ⟨5, _⟩ => ⟨S1024x2048, .f32⟩
  | .hbm, ⟨6, _⟩ => ⟨S1024x2048, .f32⟩
  | .hbm, ⟨7, _⟩ => ⟨S1024x2048, .bf16⟩
  | .hbm, ⟨8, _⟩ => ⟨S1024x2048, .bf16⟩
  | .hbm, ⟨9, _⟩ => ⟨S1x1024, .f32⟩
  | .hbm, ⟨10, _⟩ => ⟨S1x256, .f32⟩
  | .hbm, ⟨11, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x256, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixRefIdeal.lean ====
abbrev S8192x11264 : Shape := ⟨2, ![8192, 11264]⟩
abbrev S8192x1024 : Shape := ⟨2, ![8192, 1024]⟩
abbrev S1024 : Shape := ⟨1, ![1024]⟩
abbrev S256 : Shape := ⟨1, ![256]⟩
abbrev S1024x2048 : Shape := ⟨2, ![1024, 2048]⟩
abbrev S8192x2048 : Shape := ⟨2, ![8192, 2048]⟩
abbrev S8192x8x128 : Shape := ⟨3, ![8192, 8, 128]⟩
abbrev S8192x4x256 : Shape := ⟨3, ![8192, 4, 256]⟩
abbrev S_ : Shape := ⟨0, ![]⟩
abbrev S8192x8 : Shape := ⟨2, ![8192, 8]⟩
abbrev S8192x8x1 : Shape := ⟨3, ![8192, 8, 1]⟩
abbrev S8x128 : Shape := ⟨2, ![8, 128]⟩
abbrev S1x8x128 : Shape := ⟨3, ![1, 8, 128]⟩
abbrev S8192x4 : Shape := ⟨2, ![8192, 4]⟩
abbrev S8192x4x1 : Shape := ⟨3, ![8192, 4, 1]⟩
abbrev S1x1x256 : Shape := ⟨3, ![1, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S256, .f32⟩
  | .hbm, ⟨5, _⟩ => ⟨S1024x2048, .f32⟩
  | .hbm, ⟨6, _⟩ => ⟨S1024x2048, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x8x128, .f32⟩
  | .hbm, ⟨11, _⟩ => ⟨S8192x4x256, .f32⟩
  | .hbm, ⟨12, _⟩ => ⟨S8192x8x128, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S8192x8x128, .f32⟩
  | .hbm, ⟨24, _⟩ => ⟨S8192x8x128, .f32⟩
  | .hbm, ⟨25, _⟩ => ⟨S8x128, .f32⟩
  | .hbm, ⟨26, _⟩ => ⟨S1x8x128, .f32⟩
  | .hbm, ⟨27, _⟩ => ⟨S8192x8x128, .f32⟩
  | .hbm, ⟨28, _⟩ => ⟨S8192x8x128, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x4x256, .f32⟩
  | .hbm, ⟨41, _⟩ => ⟨S_, .f32⟩
  | .hbm, ⟨42, _⟩ => ⟨S8192x4, .f32⟩
  | .hbm, ⟨43, _⟩ => ⟨S8192x4x1, .f32⟩
  | .hbm, ⟨44, _⟩ => ⟨S_, .f32⟩
  | .hbm, ⟨45, _⟩ => ⟨S8192x4x1, .f32⟩
  | .hbm, ⟨46, _⟩ => ⟨S8192x4x1, .f32⟩
  | .hbm, ⟨47, _⟩ => ⟨S_, .f32⟩
  | .hbm, ⟨48, _⟩ => ⟨S8192x4x1, .f32⟩
  | .hbm, ⟨49, _⟩ => ⟨S8192x4x1, .f32⟩
  | .hbm, ⟨50, _⟩ => ⟨S8192x4x1, .f32⟩
  | .hbm, ⟨51, _⟩ => ⟨S8192x4x256, .f32⟩
  | .hbm, ⟨52, _⟩ => ⟨S8192x4x256, .f32⟩
  | .hbm, ⟨53, _⟩ => ⟨S1x1x256, .f32⟩
  | .hbm, ⟨54, _⟩ => ⟨S8192x4x256, .f32⟩
  | .hbm, ⟨55, _⟩ => ⟨S8192x4x256, .f32⟩
  | .hbm, ⟨56, _⟩ => ⟨S_, .f32⟩
  | .hbm, ⟨57, _⟩ => ⟨S8192x4x256, .f32⟩
  | .hbm, ⟨58, _⟩ => ⟨S8192x4x256, .f32⟩
  | .hbm, ⟨59, _⟩ => ⟨S8192x1024, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Proof.RetSpec.lean ====
/-
  Multi-scale retention over a prompt, as formulas on the extended reals: rotary position encoding, the decay tables, the
  state after each chunk and the output of each chunk. Both programs are shown to compute these.
-/
module

public import Idealize.ShloMosaic.PureOps
public import Idealize.ShloMosaic.Lib.ValueIdx

@[expose] public section

noncomputable section

namespace Cert.RetSpec

open Idealize.ShloMosaic

/-- A whole number as the programs make it: a 32-bit word read as a float. -/
def num (n : ℕ) : EReal := (FloatOps.sitofp .f32 (BitVec.ofNat 32 n) : Ideal .f32)

/-- The rotary angle of position `t` at frequency `e`. -/
def ang (t e : ℕ) : EReal :=
  num t * Ideal.exp (Ideal.div (Ideal.ofBits .f32 3239271822#32 * num e) (Ideal.ofBits .f32 1115684864#32))

/-- Rotary position encoding of the head `x` at position `t`: the first half of the coordinates pairs with the second. -/
def rope (x : Fin 128 → EReal) (t : ℕ) (d : Fin 128) : EReal :=
  if h : d.val < 64 then x d * Ideal.cos (ang t d.val) - x ⟨64 + d.val, by omega⟩ * Ideal.sin (ang t d.val)
  else x ⟨d.val - 64, by omega⟩ * Ideal.sin (ang t (d.val - 64)) + x ⟨64 + (d.val - 64), by omega⟩ * Ideal.cos (ang t (d.val - 64))

/-- The logarithm of head `h`'s decay. -/
def lg (h : ℕ) : EReal :=
  Ideal.log1p (-Ideal.exp (Ideal.ofBits .f32 1060205080#32 * (Ideal.ofBits .f32 3231711232#32 - num h)))

/-- The decay between rows `i` and `j` of a chunk; zero above the diagonal. -/
def dmat (h i j : ℕ) : EReal :=
  if 0 ≤ num i - num j then Ideal.exp ((if 0 ≤ num i - num j then num i - num j else 0) * lg h) else 0

/-- The decay of the carried state at row `i`. -/
def din (h i : ℕ) : EReal := Ideal.exp ((num i + 1) * lg h)

/-- The decay from row `j` to the end of its chunk. -/
def dout (h j : ℕ) : EReal := Ideal.exp ((Ideal.ofBits .f32 1123942400#32 - num j) * lg h)

/-- The decay over a whole chunk. -/
def dch (h : ℕ) : EReal := Ideal.exp (Ideal.ofBits .f32 1124073472#32 * lg h)

/-- The key scale. -/
def scale : EReal := Ideal.ofBits .f32 1035273459#32

variable (z : Fin 4 → Fin 2048 → Fin 11264 → EReal) (b : Fin 4)

/-- Row `i` of chunk `n`. -/
abbrev row (n : Fin 16) (i : Fin 128) : Fin 2048 := ⟨n.val * 128 + i.val, by omega⟩

/-- The queries. -/
def q (n : Fin 16) (h : Fin 8) (i d : Fin 128) : EReal :=
  rope (fun e => z b (row n i) ⟨h.val * 128 + e.val, by omega⟩) (n.val * 128 + i.val) d

/-- The keys. -/
def k (n : Fin 16) (h : Fin 8) (i d : Fin 128) : EReal :=
  rope (fun e => z b (row n i) ⟨1024 + (h.val * 128 + e.val), by omega⟩) (n.val * 128 + i.val) d * scale

/-- The values. -/
def v (n : Fin 16) (h : Fin 8) (i d : Fin 128) : EReal := z b (row n i) ⟨2048 + (h.val * 128 + d.val), by omega⟩

/-- The state `s` of batch `b` carried over chunk `n`. -/
def next (n : Fin 16) (s : Fin 8 → Fin 128 → Fin 128 → EReal) (h : Fin 8) (d w : Fin 128) : EReal :=
  dch h.val * s h d w + ∑ j : Fin 128, k z b n h j d * dout h.val j.val * v z b n h j w

/-- The output of chunk `n` over the state `s`. -/
def out (n : Fin 16) (s : Fin 8 → Fin 128 → Fin 128 → EReal) (h : Fin 8) (i w : Fin 128) : EReal :=
  (∑ j : Fin 128, (∑ d : Fin 128, q z b n h i d * k z b n h j d) * dmat h.val i.val j.val * v z b n h j w)
    + (∑ d : Fin 128, q z b n h i d * s h d w) * din h.val i.val

/-- The state after the first `n` chunks. -/
def state : ℕ → Fin 8 → Fin 128 → Fin 128 → EReal
  | 0 => fun _ _ _ => 0
  | n + 1 => if hn : n < 16 then next z b ⟨n, hn⟩ (state n) else state n

theorem state_succ (n : Fin 16) : state z b (n.val + 1) = next z b n (state z b n.val) := dif_pos n.isLt

end Cert.RetSpec

end
-- ==== Proof.RetRef.lean ====
module

public import proofs.«01_k».proof.Proof.Gen.ReferenceIdeal.Run
public import Idealize.ShloMosaic.Lib.Pointwise
public import proofs.«01_k».proof.Proof.RetSpec
public import Idealize.ShloMosaic.Lib.StableHlo.ReadAt
public import Idealize.ShloMosaic.Lib.ValueIdx
public import Idealize.ShloMosaic.Lib.DynamicIndex
public import Idealize.ShloMosaic.Lib.Pipeline.Value

@[expose] public section
set_option maxRecDepth 16384

noncomputable section

namespace Cert.RetRef

open Idealize.ShloMosaic Idealize.ShloMosaic.TcCoe Idealize.SL.Sem Idealize.ShloMosaic.StableHlo Cert.ReferenceIdeal Cert.ReferenceIdeal.Gen Cert.ReferenceIdeal.Value Cert.RetSpec

/-- What the loop's buffers hold: queries, keys, values, state, outputs. -/
def at0 (X : Valuation τ sig (Elt Ideal)) : S16x4x8x128x128.Idx → EReal := X (Proc.devRef .tc main_v75_0)
@[inherit_doc at0] def at1 (X : Valuation τ sig (Elt Ideal)) : S16x4x8x128x128.Idx → EReal := X (Proc.devRef .tc main_v75_1)
@[inherit_doc at0] def at2 (X : Valuation τ sig (Elt Ideal)) : S16x4x8x128x128.Idx → EReal := X (Proc.devRef .tc main_v75_2)
@[inherit_doc at0] def at4 (X : Valuation τ sig (Elt Ideal)) : S4x8x128x128.Idx → EReal := X (Proc.devRef .tc main_v75_4)
@[inherit_doc at0] def at5 (X : Valuation τ sig (Elt Ideal)) : S16x4x8x128x128.Idx → EReal := X (Proc.devRef .tc main_v75_5)

variable (m : (ℓ : Loc nD τ sig) → Buf (Elt Ideal) ℓ) (c : Dev nD)

/-- The chunk a slice at `n` takes. -/
theorem slice_at (x : S16x4x8x128x128.Idx → EReal) (n : Fin 16) (h : S16x4x8x128x128.Slices (fun _ => 0) S1x4x8x128x128) :
    Host.dynamicSlice S1x4x8x128x128 x (fun k => BitVec.toInt
      ((![constantI S_ 32 (BitVec.ofNat 32 n.val), constantI S_ 32 0#32, constantI S_ 32 0#32, constantI S_ 32 0#32, constantI S_ 32 0#32] : Fin 5 → _)
        k (Shape.Idx.first h_S_))) h
      = extractStridedSlice S1x4x8x128x128 ![n.val, 0, 0, 0, 0] x ⟨rfl, fun a => by fin_cases a <;> simp [Shape.size] <;> omega⟩ := by
  refine Host.dynamicSlice_eq_extractStridedSlice _ _ _ _ _ _ fun a => ?_
  fin_cases a <;> simp [constantI]
  exact toInt_ofNat_of_lt (by omega)

/-- The chunk an update at `n` writes. -/
theorem update_at (x : S16x4x8x128x128.Idx → EReal) (u : S1x4x8x128x128.Idx → EReal) (n : Fin 16) (h : S16x4x8x128x128.Slices (fun _ => 0) S1x4x8x128x128) :
    Host.dynamicUpdateSlice x u (fun k => BitVec.toInt
      ((![constantI S_ 32 (BitVec.ofNat 32 n.val), constantI S_ 32 0#32, constantI S_ 32 0#32, constantI S_ 32 0#32, constantI S_ 32 0#32] : Fin 5 → _)
        k (Shape.Idx.first h_S_))) h
      = updateSlice x u ![n.val, 0, 0, 0, 0] ⟨rfl, fun a => by fin_cases a <;> simp [Shape.size] <;> omega⟩ := by
  refine Host.dynamicUpdateSlice_eq_updateSlice _ _ _ _ _ (fun a => ?_) _
  fin_cases a <;> simp [constantI]
  rw [toInt_ofNat_of_lt (by omega)]
  omega

/-- The state a trip leaves, from the chunk's keys and values and the state before. -/
theorem trip_state (X : Valuation τ sig (Elt Ideal)) (n : Fin 16) (hn : X (Proc.devRef .tc main_v75_3) = constantI S_ 32 (BitVec.ofNat 32 n.val)) (b : Fin 4) (h : Fin 8) (d v : Fin 128) :
    (step_main_v75_4 X : FVec Ideal S4x8x128x128 .f32) (ix4 b h d v)
      = (dch h.val * at4 X (ix4 b h d v)
        + ∑ j : Fin 128, at1 X (ix5 n b h j d) * dout h.val j.val
          * at2 X (ix5 n b h j v) : EReal) := by
  unfold step_main_v75_4 res_main_while0b_v89 res_main_while0b_v80 res_main_while0b_v81 res_main_while0b_v90
  rw [hn]
  simp only [id_eq]
  clean_types
  simp only [slice_at]
  pointwise
  rfl

/-- The outputs a trip leaves: the chunk's own, and those of the trips before. -/
theorem trip_out (X : Valuation τ sig (Elt Ideal)) (n : Fin 16) (hn : X (Proc.devRef .tc main_v75_3) = constantI S_ 32 (BitVec.ofNat 32 n.val)) (k : Fin 16) (b : Fin 4) (h : Fin 8) (i v : Fin 128) :
    (step_main_v75_5 X : FVec Ideal S16x4x8x128x128 .f32) (ix5 k b h i v)
      = (if n.val ≤ k.val ∧ k.val < n.val + 1 then
          (∑ j : Fin 128, (∑ d : Fin 128, at0 X (ix5 n b h i d) * at1 X (ix5 n b h j d))
              * dmat h.val i.val j.val * at2 X (ix5 n b h j v))
            + (∑ d : Fin 128, at0 X (ix5 n b h i d) * at4 X (ix4 b h d v)) * din h.val i.val
        else at5 X (ix5 k b h i v) : EReal) := by
  unfold step_main_v75_5 res_main_while0b_v79 res_main_while0b_v89 res_main_while0b_v80 res_main_while0b_v81 res_main_while0b_v97 res_main_while0b_v95 res_main_while0b_v90
  rw [hn]
  simp only [id_eq]
  clean_types
  simp only [slice_at, update_at]
  pointwise
  rfl

abbrev zR (b : Fin 4) (t : Fin 2048) (e : Fin 11264) : EReal := (m ((c : Thread nD τ).loc main_arg0) : FVec Ideal S4x2048x11264 .f32) (ix3 b t e)

/-- The loop's queries are the rotated ones. -/
theorem entry_q (n : Fin 16) (b : Fin 4) (h : Fin 8) (i d : Fin 128) :
    at0 (entryContents preI m c) (ix5 n b h i d) = q (zR m c) b n h i d := by
  unfold at0
  simp only [entryContents, afterL_cons, afterL_nil]
  after_reads_at
  simp only [id_eq]
  pointwise
  unfold upto
  after_reads_at
  rfl

/-- The loop's keys are the rotated and scaled ones. -/
theorem entry_k (n : Fin 16) (b : Fin 4) (h : Fin 8) (i d : Fin 128) :
    at1 (entryContents preI m c) (ix5 n b h i d) = k (zR m c) b n h i d := by
  unfold at1
  simp only [entryContents, afterL_cons, afterL_nil]
  after_reads_at
  simp only [id_eq]
  pointwise
  unfold upto
  after_reads_at
  rfl

/-- The loop's values. -/
theorem entry_v (n : Fin 16) (b : Fin 4) (h : Fin 8) (i d : Fin 128) :
    at2 (entryContents preI m c) (ix5 n b h i d) = v (zR m c) b n h i d := by
  unfold at2
  simp only [entryContents, afterL_cons, afterL_nil]
  after_reads_at
  simp only [id_eq]
  pointwise
  rfl

theorem entry_s (b : Fin 4) (h : Fin 8) (d v : Fin 128) :
    at4 (entryContents preI m c) (ix4 b h d v) = (0 : EReal) := by
  unfold at4
  simp only [entryContents, afterL_cons, afterL_nil]
  after_reads_at
  simp only [id_eq]
  pointwise
end Cert.RetRef
end
-- ==== Proof.RetLoop.lean ====
/-
  The reference's loop over the chunks: after `k` trips it holds the state of the first `k` chunks and their outputs.
-/
module

public import proofs.«01_k».proof.Proof.RetRef

@[expose] public section

set_option maxRecDepth 16384

noncomputable section

namespace Cert.RetRef

open Idealize.ShloMosaic Idealize.ShloMosaic.TcCoe Idealize.SL.Sem Idealize.ShloMosaic.StableHlo Cert.ReferenceIdeal Cert.ReferenceIdeal.Gen Cert.ReferenceIdeal.Value Cert.RetSpec

variable (m : (ℓ : Loc nD τ sig) → Buf (Elt Ideal) ℓ) (c : Dev nD)

/-- The loop's buffers after `n` trips. -/
def trips (n : ℕ) : Valuation τ sig (Elt Ideal) := STEP^[n] (entryContents preI m c)

theorem trips_succ (n : ℕ) : trips m c (n + 1) = STEP (trips m c n) := Function.iterate_succ_apply' _ _ _

theorem trips_0 : ∀ n : ℕ, at0 (trips m c n) = at0 (trips m c 0)
  | 0 => rfl
  | n + 1 => by rw [trips_succ]; exact (STEP_main_v75_0 _).trans (trips_0 n)
theorem trips_1 : ∀ n : ℕ, at1 (trips m c n) = at1 (trips m c 0)
  | 0 => rfl
  | n + 1 => by rw [trips_succ]; exact (STEP_main_v75_1 _).trans (trips_1 n)
theorem trips_2 : ∀ n : ℕ, at2 (trips m c n) = at2 (trips m c 0)
  | 0 => rfl
  | n + 1 => by rw [trips_succ]; exact (STEP_main_v75_2 _).trans (trips_2 n)

theorem trips_3 : ∀ n : ℕ, trips m c n (Proc.devRef .tc main_v75_3) = constantI S_ 32 (BitVec.ofNat 32 n)
  | 0 => ctr_entry m c
  | n + 1 => by
    rw [trips_succ, STEP_main_v75_3, step_main_v75_3, trips_3 n]
    funext j
    show BitVec.ofNat 32 n + 1#32 = BitVec.ofNat 32 (n + 1)
    exact (BitVec.ofNat_add n 1).symm

theorem trips_q (k : ℕ) (n : Fin 16) (b : Fin 4) (h : Fin 8) (i d : Fin 128) : at0 (trips m c k) (ix5 n b h i d) = q (zR m c) b n h i d := by
  rw [trips_0]; exact entry_q m c n b h i d
theorem trips_k (k : ℕ) (n : Fin 16) (b : Fin 4) (h : Fin 8) (i d : Fin 128) : at1 (trips m c k) (ix5 n b h i d) = RetSpec.k (zR m c) b n h i d := by
  rw [trips_1]; exact entry_k m c n b h i d
theorem trips_v (k : ℕ) (n : Fin 16) (b : Fin 4) (h : Fin 8) (i d : Fin 128) : at2 (trips m c k) (ix5 n b h i d) = v (zR m c) b n h i d := by
  rw [trips_2]; exact entry_v m c n b h i d

/-- The state after `n` trips. -/
theorem trips_state : ∀ n : ℕ, n ≤ 16 → ∀ (b : Fin 4) (h : Fin 8) (d w : Fin 128),
    at4 (trips m c n) (ix4 b h d w) = state (zR m c) b n h d w
  | 0, _, b, h, d, w => entry_s m c b h d w
  | n + 1, hn, b, h, d, w => by
    have e : at4 (trips m c (n + 1)) = step_main_v75_4 (trips m c n) := by rw [trips_succ]; exact STEP_main_v75_4 _
    rw [e, state_succ (zR m c) b ⟨n, hn⟩]
    refine (trip_state (trips m c n) ⟨n, hn⟩ (trips_3 m c n) b h d w).trans ?_
    unfold next
    rw [trips_state n (by omega)]
    simp only [trips_k, trips_v]

/-- The outputs after `n` trips: those of the chunks before. -/
theorem trips_out : ∀ n : ℕ, n ≤ 16 → ∀ (k : Fin 16) (_ : k.val < n) (b : Fin 4) (h : Fin 8) (i w : Fin 128),
    at5 (trips m c n) (ix5 k b h i w) = out (zR m c) b k (state (zR m c) b k.val) h i w
  | n + 1, hn, k, hk, b, h, i, w => by
    have e : at5 (trips m c (n + 1)) = step_main_v75_5 (trips m c n) := by rw [trips_succ]; exact STEP_main_v75_5 _
    rw [e]
    refine (trip_out (trips m c n) ⟨n, hn⟩ (trips_3 m c n) k b h i w).trans ?_
    by_cases hkn : k.val = n
    · obtain rfl : k = ⟨n, hn⟩ := Fin.ext hkn
      rw [if_pos (by dsimp only; omega)]
      unfold out
      simp only [trips_q, trips_k, trips_v, trips_state m c n (by omega)]
    · rw [if_neg (by dsimp only; omega)]
      exact trips_out n (by omega) k (by omega) b h i w

/-- The reference's first result. -/
theorem out_at (b : Fin 4) (t : Fin 2048) (e : Fin 1024) :
    (out_main_v78 (STEP^[16] (entryContents preI m c)) : FVec Ideal S4x2048x1024 .f32) (ix3 b t e)
      = out (zR m c) b ⟨t.val / 128, by omega⟩ (state (zR m c) b (t.val / 128)) ⟨e.val / 128, by omega⟩ ⟨t.val % 128, by omega⟩ ⟨e.val % 128, by omega⟩ := by
  rw [← trips_out m c 16 le_rfl ⟨t.val / 128, by omega⟩ (by dsimp only; omega)]
  unfold out_main_v78
  pointwise
  rfl

end Cert.RetRef

end
-- ==== Proof.RetHead.lean ====
/-
  One head of one chunk of the retention kernel, read at an index: what the kernel's vector operations on a head's
  slice of the query, key and value blocks leave, as sums over the extended reals.
-/
module

public import proofs.«01_k».proof.Proof.Gen.KernelIdeal.Skeleton
public import Idealize.ShloMosaic.Lib.Pointwise
public import Idealize.ShloMosaic.Lib.ValueIdx
public import Idealize.ShloMosaic.Lib.Pipeline.Value

@[expose] public section

set_option maxRecDepth 16384

noncomputable section

namespace Cert.RetHead

open Idealize.ShloMosaic Cert.KernelIdeal Cert.KernelIdeal.Gen

/-- The column of head `h`, coordinate `d`, in a block of eight heads side by side. -/
abbrev col (h : Fin 8) (d : Fin 128) : Fin 1024 := ⟨128 * h.val + d.val, by omega⟩

/-- The coordinate that rotary pairs with `d`: half a head away. -/
abbrev half (d : Fin 128) : Fin 128 := ⟨(d.val + 128 - 64) % 128, Nat.mod_lt _ (by decide)⟩

/-- The literal that scales the keys. -/
abbrev scale : EReal := (FloatOps.ofBits .f32 0x3DB504F3#32 : Ideal .f32)

/-- Rotary position encoding of head `h` of a block, at row `i`, coordinate `d`. -/
def rotE (x : FVec Ideal S1x128x1024 .f32) (cs sn : FVec Ideal S128x128 .f32) (h : Fin 8) (i d : Fin 128) : EReal :=
  x (ix3 0 i (col h d)) * cs (ix2 i d) + x (ix3 0 i (col h (half d))) * sn (ix2 i d)

/-- What one chunk's output is at row `i`, head `h`, coordinate `v`. -/
def outE (x0 x1 x2 : FVec Ideal S1x128x1024 .f32) (cs sn : FVec Ideal S128x128 .f32) (dm di s : FVec Ideal S8x128x128 .f32)
    (h : Fin 8) (i v : Fin 128) : EReal :=
  (∑ j : Fin 128, ((∑ d : Fin 128, rotE x0 cs sn h i d * (rotE x1 cs sn h j d * scale)) * dm (ix3 h i j)) * x2 (ix3 0 j (col h v)))
    + (∑ d : Fin 128, rotE x0 cs sn h i d * s (ix3 h d v)) * di (ix3 h i v)

/-- What one chunk makes of the state at head `h`, key coordinate `d`, value coordinate `v`. -/
def stE (x1 x2 : FVec Ideal S1x128x1024 .f32) (cs sn : FVec Ideal S128x128 .f32) (dout dch s : FVec Ideal S8x128x128 .f32)
    (h : Fin 8) (d v : Fin 128) : EReal :=
  dch (ix3 h d v) * s (ix3 h d v)
    + ∑ j : Fin 128, (rotE x1 cs sn h j d * scale * dout (ix3 h j d)) * x2 (ix3 0 j (col h v))

theorem slc (h : Fin 8) : S128x1024.Slices ![0, 128 * h.val] S128x128 :=
  ⟨rfl, fun a => by fin_cases a <;> dsimp <;> omega⟩

/-- A head of a block, rotated: the kernel's operations. -/
def rotV (x : FVec Ideal S1x128x1024 .f32) (cs sn : FVec Ideal S128x128 .f32) (h : Fin 8) : FVec Ideal S128x128 .f32 :=
  addf (mulf (extractStridedSlice S128x128 ![0, 128 * h.val] (shapeCast S128x1024 x shapeCasts_S1x128x1024_S128x1024) (slc h)) (shapeCast S128x128 cs shapeCasts_S128x128_S128x128))
    (mulf (dynamicRotate 1 64#32 none (extractStridedSlice S128x128 ![0, 128 * h.val] (shapeCast S128x1024 x shapeCasts_S1x128x1024_S128x1024) (slc h)) rotates_S128x128_d1)
      (shapeCast S128x128 sn shapeCasts_S128x128_S128x128))

/-- A head of the keys, rotated and scaled. -/
def keyV (x : FVec Ideal S1x128x1024 .f32) (cs sn : FVec Ideal S128x128 .f32) (h : Fin 8) : FVec Ideal S128x128 .f32 :=
  mulf (rotV x cs sn h) (broadcast S128x128 (Scalar.ofBits .f32 0x3DB504F3#32))

/-- A head of the values. -/
def valV (x : FVec Ideal S1x128x1024 .f32) (h : Fin 8) : FVec Ideal S128x128 .bf16 :=
  truncf .bf16 (extractStridedSlice S128x128 ![0, 128 * h.val] (shapeCast S128x1024 x shapeCasts_S1x128x1024_S128x1024) (slc h)) bitsLt_bf16_f32

/-- The head's output block: the kernel's operations, from the head's own blocks of the tables and of the state. -/
def outV (x0 x1 x2 : FVec Ideal S1x128x1024 .f32) (cs sn : FVec Ideal S128x128 .f32) (dm di s : FVec Ideal S1x128x128 .f32) (h : Fin 8) :
    FVec Ideal S1x128x128 .f32 :=
  shapeCast S1x128x128 (addf
    (matmul dot_S128x128_S128x128_S128x128_1_0_0_1_n_n none
      (truncf .bf16 (mulf (matmul dot_S128x128_S128x128_S128x128_1_1_0_0_n_n none (truncf .bf16 (rotV x0 cs sn h) bitsLt_bf16_f32)
        (truncf .bf16 (keyV x1 cs sn h) bitsLt_bf16_f32) (constant S128x128 .f32 0x00000000#32)) (shapeCast S128x128 dm shapeCasts_S1x128x128_S128x128)) bitsLt_bf16_f32)
      (valV x2 h) (constant S128x128 .f32 0x00000000#32))
    (mulf (matmul dot_S128x128_S128x128_S128x128_1_0_0_1_n_n none (truncf .bf16 (rotV x0 cs sn h) bitsLt_bf16_f32)
      (truncf .bf16 (shapeCast S128x128 s shapeCasts_S1x128x128_S128x128) bitsLt_bf16_f32) (constant S128x128 .f32 0x00000000#32))
      (shapeCast S128x128 di shapeCasts_S1x128x128_S128x128))) shapeCasts_S128x128_S1x128x128

/-- The head's new state block: the kernel's operations. -/
def stV (x1 x2 : FVec Ideal S1x128x1024 .f32) (cs sn : FVec Ideal S128x128 .f32) (dout dch s : FVec Ideal S1x128x128 .f32) (h : Fin 8) :
    FVec Ideal S1x128x128 .f32 :=
  shapeCast S1x128x128 (addf
    (mulf (shapeCast S128x128 dch shapeCasts_S1x128x128_S128x128) (shapeCast S128x128 s shapeCasts_S1x128x128_S128x128))
    (matmul dot_S128x128_S128x128_S128x128_0_0_1_1_n_n none
      (truncf .bf16 (mulf (keyV x1 cs sn h) (shapeCast S128x128 dout shapeCasts_S1x128x128_S128x128)) bitsLt_bf16_f32)
      (valV x2 h) (constant S128x128 .f32 0x00000000#32))) shapeCasts_S128x128_S1x128x128

theorem rotV_at (x : FVec Ideal S1x128x1024 .f32) (cs sn : FVec Ideal S128x128 .f32) (h : Fin 8) (i d : Fin 128) :
    rotV x cs sn h (ix2 i d) = rotE x cs sn h i d := by
  pointwise [rotV, rotE]

theorem keyV_at (x : FVec Ideal S1x128x1024 .f32) (cs sn : FVec Ideal S128x128 .f32) (h : Fin 8) (i d : Fin 128) :
    keyV x cs sn h (ix2 i d) = rotE x cs sn h i d * scale := by
  pointwise [keyV, rotV_at]

theorem valV_at (x : FVec Ideal S1x128x1024 .f32) (h : Fin 8) (j v : Fin 128) :
    valV x h (ix2 j v) = x (ix3 0 j (col h v)) := by
  pointwise [valV]

theorem outV_at (x0 x1 x2 : FVec Ideal S1x128x1024 .f32) (cs sn : FVec Ideal S128x128 .f32) (dm di s : FVec Ideal S1x128x128 .f32)
    (h : Fin 8) (i v : Fin 128) :
    outV x0 x1 x2 cs sn dm di s h (ix3 0 i v)
      = (∑ j : Fin 128, ((∑ d : Fin 128, rotE x0 cs sn h i d * (rotE x1 cs sn h j d * scale)) * dm (ix3 0 i j)) * x2 (ix3 0 j (col h v)))
        + (∑ d : Fin 128, rotE x0 cs sn h i d * s (ix3 0 d v)) * di (ix3 0 i v) := by
  pointwise [outV, rotV_at, keyV_at, valV_at]

theorem stV_at (x1 x2 : FVec Ideal S1x128x1024 .f32) (cs sn : FVec Ideal S128x128 .f32) (dout dch s : FVec Ideal S1x128x128 .f32)
    (h : Fin 8) (d v : Fin 128) :
    stV x1 x2 cs sn dout dch s h (ix3 0 d v)
      = dch (ix3 0 d v) * s (ix3 0 d v)
        + ∑ j : Fin 128, (rotE x1 cs sn h j d * scale * dout (ix3 0 j d)) * x2 (ix3 0 j (col h v)) := by
  pointwise [stV, keyV_at, valV_at]

end Cert.RetHead

end
-- ==== Proof.RetBlock.lean ====
/-
  What each kind of grid point of the retention kernel leaves in its buffers: the chunk's output and the new state, head by head.
-/
module

public import proofs.«01_k».proof.Proof.Gen.KernelIdeal.Value
public import proofs.«01_k».proof.Proof.RetHead
public import Idealize.ShloMosaic.Lib.Pipeline.ReadBack
public import Idealize.ShloMosaic.Lib.Pipeline.ValueKit

@[expose] public section

set_option maxRecDepth 16384

noncomputable section

namespace Cert.RetBlock

open Idealize.ShloMosaic Idealize.ShloMosaic.TcCoe Idealize.SL.Sem Cert.KernelIdeal Cert.KernelIdeal.Gen Cert.RetHead

theorem z2 : (![0, 0] : Fin 2 → Nat) = fun _ => 0 := funext fun a => by fin_cases a <;> rfl
theorem z4 : (![0, 0, 0, 0] : Fin 4 → Nat) = fun _ => 0 := funext fun a => by fin_cases a <;> rfl
theorem z3 : (![0, 0, 0] : Fin 3 → Nat) = fun _ => 0 := funext fun a => by fin_cases a <;> rfl

/-- The output block, all its heads side by side. -/
def outF (x0 x1 x2 : FVec Ideal S1x128x1024 .f32) (cs sn : FVec Ideal S128x128 .f32) (dm di s : FVec Ideal S8x128x128 .f32) (y : S1x128x1024.Idx) : EReal :=
  outE x0 x1 x2 cs sn dm di s ⟨(y 2).val / 128, by have : (y 2).val < 1024 := (y 2).isLt; omega⟩ (y 1) ⟨(y 2).val % 128, Nat.mod_lt _ (by decide)⟩

/-- The new state, head over head. -/
def stF (x1 x2 : FVec Ideal S1x128x1024 .f32) (cs sn : FVec Ideal S128x128 .f32) (dout dch s : FVec Ideal S8x128x128 .f32) (y : S8x128x128.Idx) : EReal :=
  stE x1 x2 cs sn dout dch s (y 0) (y 1) (y 2)

/-- The place of head `h` in a stack of eight. -/
theorem in8 (h : Fin 8) : ∀ a, (![h.val, 0, 0] : Fin 3 → Nat) a + (![1, 128, 128] : Fin 3 → Nat) a ≤ S8x128x128.size a :=
  fun a => by fin_cases a <;> simp [Shape.size] <;> omega
/-- The place of head `h` among eight side by side. -/
theorem inW (h : Fin 8) : ∀ a, (![0, 0, 128 * h.val] : Fin 3 → Nat) a + (![1, 128, 128] : Fin 3 → Nat) a ≤ S1x128x1024.size a :=
  fun a => by fin_cases a <;> simp [Shape.size] <;> omega

/-- Head `h` of a stack of eight. -/
def hd8 (x : Vec Ideal S8x128x128 .f32) (h : Fin 8) : Vec Ideal S1x128x128 .f32 := View.ld (Val := Elt Ideal) (e' := .f32) x (Rect.unit ![h.val, 0, 0] ![1, 128, 128] (in8 h))

theorem hd8_at (x : FVec Ideal S8x128x128 .f32) (h : Fin 8) (i j : Fin 128) : hd8 x h (ix3 0 i j) = x (ix3 h i j) := by
  pointwise [hd8]

/-- Stores that are each a part of `G` and cover the buffer leave `G`. -/
theorem canon_pieces {s : Shape} (G : s.Idx → Elt Ideal .f32) (L : List (View.Piece (Elt Ideal) s .f32)) (h : View.PiecesOf G L) (y : s.Idx)
    (hc : ∃ p ∈ L, y ∈ p.1.set) : View.canon L y = G y := by
  have := View.canon_append_of_piecesOf G [] L h y hc
  rwa [List.append_nil] at this

/-- The last grid point of a batch copies the state out as it stands. -/
theorem copy_out (a : Memref sig .tc .vmem S8x128x128 .f32) (L : List (View.Piece (Elt Ideal) S8x128x128 .f32)) (y : S1x8x128x128.Idx) :
    View.canon (Val := Elt Ideal) (e := .f32) [⟨Rect.unit ![0, 0, 0, 0] ![1, 8, 128, 128] inb_S1x8x128x128_S1x8x128x128_0_0_0_0,
      k0_pay3 (a.view.readCov L (Rect.unit ![0, 0, 0] ![8, 128, 128] inb_S8x128x128_S8x128x128_0_0_0).toLoadRect)⟩] y
      = View.canon L (ix3 (y 1) (y 2) (y 3)) := by
  rw [View.canon_unit_zero z4, View.readCov_eq_canon']
  unfold k0_pay3
  generalize View.canon L = G
  idx_vars y
  pointwise

/-- A head's output block is its part of the whole. -/
theorem out_piece (x0 x1 x2 : FVec Ideal S1x128x1024 .f32) (cs sn : FVec Ideal S128x128 .f32) (dm di s : FVec Ideal S8x128x128 .f32) (h : Fin 8)
    (p : FVec Ideal S1x128x128 .f32) (hp : p = outV x0 x1 x2 cs sn (hd8 dm h) (hd8 di h) (hd8 s h) h) (x : S1x128x128.Idx) :
    p x = outF x0 x1 x2 cs sn dm di s ((Rect.unit (s := S1x128x1024) ![0, 0, 128 * h.val] ![1, 128, 128] (inW h)).emb x) := by
  subst hp
  obtain ⟨i, j, rfl⟩ : ∃ i j, x = ix3 0 i j := ⟨x 1, x 2, by idx_ext⟩
  rw [outV_at]
  simp only [hd8_at]
  have e : (Rect.unit (s := S1x128x1024) ![0, 0, 128 * h.val] ![1, 128, 128] (inW h)).emb (ix3 0 i j) = ix3 0 i (col h j) := by idx_ext
  rw [e]
  have h1 : (128 * h.val + j.val) / 128 = h.val := by omega
  have h2 : (128 * h.val + j.val) % 128 = j.val := by omega
  show _ = outE x0 x1 x2 cs sn dm di s ⟨(128 * h.val + j.val) / 128, _⟩ i ⟨(128 * h.val + j.val) % 128, _⟩
  simp only [h1, h2]
  rfl

/-- A head's new state is its part of the whole. -/
theorem st_piece (x1 x2 : FVec Ideal S1x128x1024 .f32) (cs sn : FVec Ideal S128x128 .f32) (dout dch s : FVec Ideal S8x128x128 .f32) (h : Fin 8)
    (p : FVec Ideal S1x128x128 .f32) (hp : p = stV x1 x2 cs sn (hd8 dout h) (hd8 dch h) (hd8 s h) h) (x : S1x128x128.Idx) :
    p x = stF x1 x2 cs sn dout dch s ((Rect.unit (s := S8x128x128) ![h.val, 0, 0] ![1, 128, 128] (in8 h)).emb x) := by
  subst hp
  obtain ⟨i, j, rfl⟩ : ∃ i j, x = ix3 0 i j := ⟨x 1, x 2, by idx_ext⟩
  rw [stV_at]
  simp only [hd8_at]
  have e : (Rect.unit (s := S8x128x128) ![h.val, 0, 0] ![1, 128, 128] (in8 h)).emb (ix3 0 i j) = ix3 h i j := by idx_ext
  rw [e]
  rfl

theorem out_B_9 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : ¬cond0_0 i) (hc1 : ¬cond0_1 i)
    (x0 x1 x2 : Vec Ideal S1x128x1024 .f32) (x3 x4 : Vec Ideal S128x128 .f32) (x5 x6 x7 x8 : Vec Ideal S8x128x128 .f32) (xs : Vec Ideal S8x128x128 .f32) (y : S1x128x1024.Idx) :
    out0_B_9 c i a2 w2 a3 w3 a4 w4 a5 w5 a6 w6 a7 w7 a8 w8 a9 w9 a10 w10 a11 w11 a12 w12 a13 w13 hc0 hc1 x0 x1 x2 x3 x4 x5 x6 x7 x8 xs y = outF x0 x1 x2 x3 x4 x5 x6 xs y := by
  unfold out0_B_9
  rw [View.read_writes_eq_canon _ _ _ (cover0_B_9 c i a2 w2 a3 w3 a4 w4 a5 w5 a6 w6 a7 w7 a8 w8 a9 w9 a10 w10 a11 w11 a12 w12 a13 w13 hc0 hc1 x0 x1 x2 x3 x4 x5 x6 x7 x8 xs)]
  have hcov := cover0_B_9 c i a2 w2 a3 w3 a4 w4 a5 w5 a6 w6 a7 w7 a8 w8 a9 w9 a10 w10 a11 w11 a12 w12 a13 w13 hc0 hc1 x0 x1 x2 x3 x4 x5 x6 x7 x8 xs y
  revert hcov
  unfold kernelRun0_B
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  refine canon_pieces (outF x0 x1 x2 x3 x4 x5 x6 xs) _ ?_ y hcov
  exact ⟨out_piece x0 x1 x2 x3 x4 x5 x6 xs 7 _ rfl, out_piece x0 x1 x2 x3 x4 x5 x6 xs 6 _ rfl, out_piece x0 x1 x2 x3 x4 x5 x6 xs 5 _ rfl, out_piece x0 x1 x2 x3 x4 x5 x6 xs 4 _ rfl, out_piece x0 x1 x2 x3 x4 x5 x6 xs 3 _ rfl, out_piece x0 x1 x2 x3 x4 x5 x6 xs 2 _ rfl, out_piece x0 x1 x2 x3 x4 x5 x6 xs 1 _ rfl, out_piece x0 x1 x2 x3 x4 x5 x6 xs 0 _ rfl, trivial⟩

theorem sout_B_0 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : ¬cond0_0 i) (hc1 : ¬cond0_1 i)
    (x0 x1 x2 : Vec Ideal S1x128x1024 .f32) (x3 x4 : Vec Ideal S128x128 .f32) (x5 x6 x7 x8 : Vec Ideal S8x128x128 .f32) (xs : Vec Ideal S8x128x128 .f32) (y : S8x128x128.Idx) :
    sout0_B_0 c i a2 w2 a3 w3 a4 w4 a5 w5 a6 w6 a7 w7 a8 w8 a9 w9 a10 w10 a11 w11 a12 w12 a13 w13 hc0 hc1 x0 x1 x2 x3 x4 x5 x6 x7 x8 xs y = stF x1 x2 x3 x4 x7 x8 xs y := by
  unfold sout0_B_0
  rw [View.read_writes_eq_canon _ _ _ (scover0_B_0 c i a2 w2 a3 w3 a4 w4 a5 w5 a6 w6 a7 w7 a8 w8 a9 w9 a10 w10 a11 w11 a12 w12 a13 w13 hc0 hc1 x0 x1 x2 x3 x4 x5 x6 x7 x8 xs)]
  have hcov := scover0_B_0 c i a2 w2 a3 w3 a4 w4 a5 w5 a6 w6 a7 w7 a8 w8 a9 w9 a10 w10 a11 w11 a12 w12 a13 w13 hc0 hc1 x0 x1 x2 x3 x4 x5 x6 x7 x8 xs y
  revert hcov
  unfold kernelRun0_B
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  refine canon_pieces (stF x1 x2 x3 x4 x7 x8 xs) _ ?_ y hcov
  exact ⟨st_piece x1 x2 x3 x4 x7 x8 xs 7 _ rfl, st_piece x1 x2 x3 x4 x7 x8 xs 6 _ rfl, st_piece x1 x2 x3 x4 x7 x8 xs 5 _ rfl, st_piece x1 x2 x3 x4 x7 x8 xs 4 _ rfl, st_piece x1 x2 x3 x4 x7 x8 xs 3 _ rfl, st_piece x1 x2 x3 x4 x7 x8 xs 2 _ rfl, st_piece x1 x2 x3 x4 x7 x8 xs 1 _ rfl, st_piece x1 x2 x3 x4 x7 x8 xs 0 _ rfl, trivial⟩

theorem out_A_9 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : cond0_0 i) (hc1 : ¬cond0_1 i)
    (x0 x1 x2 : Vec Ideal S1x128x1024 .f32) (x3 x4 : Vec Ideal S128x128 .f32) (x5 x6 x7 x8 : Vec Ideal S8x128x128 .f32) (y : S1x128x1024.Idx) :
    out0_A_9 c i a2 w2 a3 w3 a4 w4 a5 w5 a6 w6 a7 w7 a8 w8 a9 w9 a10 w10 a11 w11 a12 w12 a13 w13 hc0 hc1 x0 x1 x2 x3 x4 x5 x6 x7 x8 y = outF x0 x1 x2 x3 x4 x5 x6 (broadcast S8x128x128 (Scalar.ofBits .f32 0x00000000#32)) y := by
  unfold out0_A_9
  rw [View.read_writes_eq_canon _ _ _ (cover0_A_9 c i a2 w2 a3 w3 a4 w4 a5 w5 a6 w6 a7 w7 a8 w8 a9 w9 a10 w10 a11 w11 a12 w12 a13 w13 hc0 hc1 x0 x1 x2 x3 x4 x5 x6 x7 x8)]
  have hcov := cover0_A_9 c i a2 w2 a3 w3 a4 w4 a5 w5 a6 w6 a7 w7 a8 w8 a9 w9 a10 w10 a11 w11 a12 w12 a13 w13 hc0 hc1 x0 x1 x2 x3 x4 x5 x6 x7 x8 y
  revert hcov
  unfold kernelRun0_A
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  simp (disch := first | decide | rfl) only [View.readCov_skip, View.readCov_fill]
  clear hcov
  refine canon_pieces (outF x0 x1 x2 x3 x4 x5 x6 (broadcast S8x128x128 (Scalar.ofBits .f32 0x00000000#32))) _ ?_ y (View.cover_of_tiledL _ ![1, 128, 128] (by sl_kernel_rfl) y)
  exact ⟨out_piece x0 x1 x2 x3 x4 x5 x6 (broadcast S8x128x128 (Scalar.ofBits .f32 0x00000000#32)) 7 _ rfl, out_piece x0 x1 x2 x3 x4 x5 x6 (broadcast S8x128x128 (Scalar.ofBits .f32 0x00000000#32)) 6 _ rfl, out_piece x0 x1 x2 x3 x4 x5 x6 (broadcast S8x128x128 (Scalar.ofBits .f32 0x00000000#32)) 5 _ rfl, out_piece x0 x1 x2 x3 x4 x5 x6 (broadcast S8x128x128 (Scalar.ofBits .f32 0x00000000#32)) 4 _ rfl, out_piece x0 x1 x2 x3 x4 x5 x6 (broadcast S8x128x128 (Scalar.ofBits .f32 0x00000000#32)) 3 _ rfl, out_piece x0 x1 x2 x3 x4 x5 x6 (broadcast S8x128x128 (Scalar.ofBits .f32 0x00000000#32)) 2 _ rfl, out_piece x0 x1 x2 x3 x4 x5 x6 (broadcast S8x128x128 (Scalar.ofBits .f32 0x00000000#32)) 1 _ rfl, out_piece x0 x1 x2 x3 x4 x5 x6 (broadcast S8x128x128 (Scalar.ofBits .f32 0x00000000#32)) 0 _ rfl, trivial⟩

theorem sout_A_0 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : cond0_0 i) (hc1 : ¬cond0_1 i)
    (x0 x1 x2 : Vec Ideal S1x128x1024 .f32) (x3 x4 : Vec Ideal S128x128 .f32) (x5 x6 x7 x8 : Vec Ideal S8x128x128 .f32) (y : S8x128x128.Idx) :
    sout0_A_0 c i a2 w2 a3 w3 a4 w4 a5 w5 a6 w6 a7 w7 a8 w8 a9 w9 a10 w10 a11 w11 a12 w12 a13 w13 hc0 hc1 x0 x1 x2 x3 x4 x5 x6 x7 x8 y = stF x1 x2 x3 x4 x7 x8 (broadcast S8x128x128 (Scalar.ofBits .f32 0x00000000#32)) y := by
  unfold sout0_A_0
  rw [View.read_writes_eq_canon _ _ _ (scover0_A_0 c i a2 w2 a3 w3 a4 w4 a5 w5 a6 w6 a7 w7 a8 w8 a9 w9 a10 w10 a11 w11 a12 w12 a13 w13 hc0 hc1 x0 x1 x2 x3 x4 x5 x6 x7 x8)]
  have hcov := scover0_A_0 c i a2 w2 a3 w3 a4 w4 a5 w5 a6 w6 a7 w7 a8 w8 a9 w9 a10 w10 a11 w11 a12 w12 a13 w13 hc0 hc1 x0 x1 x2 x3 x4 x5 x6 x7 x8 y
  revert hcov
  unfold kernelRun0_A
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  clear hcov
  simp (disch := first | decide | rfl) only [View.readCov_skip, View.readCov_fill]
  refine View.canon_append_of_piecesOf (Val := Elt Ideal) (e := .f32) (stF x1 x2 x3 x4 x7 x8 (broadcast S8x128x128 (Scalar.ofBits .f32 0x00000000#32))) [_] [_, _, _, _, _, _, _, _] ?_ y ?_
  · exact ⟨st_piece x1 x2 x3 x4 x7 x8 (broadcast S8x128x128 (Scalar.ofBits .f32 0x00000000#32)) 7 _ rfl, st_piece x1 x2 x3 x4 x7 x8 (broadcast S8x128x128 (Scalar.ofBits .f32 0x00000000#32)) 6 _ rfl, st_piece x1 x2 x3 x4 x7 x8 (broadcast S8x128x128 (Scalar.ofBits .f32 0x00000000#32)) 5 _ rfl, st_piece x1 x2 x3 x4 x7 x8 (broadcast S8x128x128 (Scalar.ofBits .f32 0x00000000#32)) 4 _ rfl, st_piece x1 x2 x3 x4 x7 x8 (broadcast S8x128x128 (Scalar.ofBits .f32 0x00000000#32)) 3 _ rfl, st_piece x1 x2 x3 x4 x7 x8 (broadcast S8x128x128 (Scalar.ofBits .f32 0x00000000#32)) 2 _ rfl, st_piece x1 x2 x3 x4 x7 x8 (broadcast S8x128x128 (Scalar.ofBits .f32 0x00000000#32)) 1 _ rfl, st_piece x1 x2 x3 x4 x7 x8 (broadcast S8x128x128 (Scalar.ofBits .f32 0x00000000#32)) 0 _ rfl, trivial⟩
  · exact View.cover_of_tiledL _ ![1, 128, 128] (by sl_kernel_rfl) y

theorem out_C_10 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : ¬cond0_0 i) (hc1 : cond0_1 i)
    (x0 x1 x2 : Vec Ideal S1x128x1024 .f32) (x3 x4 : Vec Ideal S128x128 .f32) (x5 x6 x7 x8 : Vec Ideal S8x128x128 .f32) (xs : Vec Ideal S8x128x128 .f32) (y : S1x8x128x128.Idx) :
    out0_C_10 c i a2 w2 a3 w3 a4 w4 a5 w5 a6 w6 a7 w7 a8 w8 a9 w9 a10 w10 a11 w11 a12 w12 a13 w13 hc0 hc1 x0 x1 x2 x3 x4 x5 x6 x7 x8 xs y = stF x1 x2 x3 x4 x7 x8 xs (ix3 (y 1) (y 2) (y 3)) := by
  unfold out0_C_10
  rw [View.read_writes_eq_canon _ _ _ (cover0_C_10 c i a2 w2 a3 w3 a4 w4 a5 w5 a6 w6 a7 w7 a8 w8 a9 w9 a10 w10 a11 w11 a12 w12 a13 w13 hc0 hc1 x0 x1 x2 x3 x4 x5 x6 x7 x8 xs)]
  have hcov := cover0_C_10 c i a2 w2 a3 w3 a4 w4 a5 w5 a6 w6 a7 w7 a8 w8 a9 w9 a10 w10 a11 w11 a12 w12 a13 w13 hc0 hc1 x0 x1 x2 x3 x4 x5 x6 x7 x8 xs y
  revert hcov
  unfold kernelRun0_C
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  clear hcov
  rw [copy_out]
  refine canon_pieces (stF x1 x2 x3 x4 x7 x8 xs) _ ?_ _ ?_
  rotate_left
  · exact View.cover_of_tiledL _ ![1, 128, 128] (by sl_kernel_rfl) _
  exact ⟨st_piece x1 x2 x3 x4 x7 x8 xs 7 _ rfl, st_piece x1 x2 x3 x4 x7 x8 xs 6 _ rfl, st_piece x1 x2 x3 x4 x7 x8 xs 5 _ rfl, st_piece x1 x2 x3 x4 x7 x8 xs 4 _ rfl, st_piece x1 x2 x3 x4 x7 x8 xs 3 _ rfl, st_piece x1 x2 x3 x4 x7 x8 xs 2 _ rfl, st_piece x1 x2 x3 x4 x7 x8 xs 1 _ rfl, st_piece x1 x2 x3 x4 x7 x8 xs 0 _ rfl, trivial⟩

theorem out_C_9 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : ¬cond0_0 i) (hc1 : cond0_1 i)
    (x0 x1 x2 : Vec Ideal S1x128x1024 .f32) (x3 x4 : Vec Ideal S128x128 .f32) (x5 x6 x7 x8 : Vec Ideal S8x128x128 .f32) (xs : Vec Ideal S8x128x128 .f32) (y : S1x128x1024.Idx) :
    out0_C_9 c i a2 w2 a3 w3 a4 w4 a5 w5 a6 w6 a7 w7 a8 w8 a9 w9 a10 w10 a11 w11 a12 w12 a13 w13 hc0 hc1 x0 x1 x2 x3 x4 x5 x6 x7 x8 xs y = outF x0 x1 x2 x3 x4 x5 x6 xs y := by
  unfold out0_C_9
  rw [View.read_writes_eq_canon _ _ _ (cover0_C_9 c i a2 w2 a3 w3 a4 w4 a5 w5 a6 w6 a7 w7 a8 w8 a9 w9 a10 w10 a11 w11 a12 w12 a13 w13 hc0 hc1 x0 x1 x2 x3 x4 x5 x6 x7 x8 xs)]
  have hcov := cover0_C_9 c i a2 w2 a3 w3 a4 w4 a5 w5 a6 w6 a7 w7 a8 w8 a9 w9 a10 w10 a11 w11 a12 w12 a13 w13 hc0 hc1 x0 x1 x2 x3 x4 x5 x6 x7 x8 xs y
  revert hcov
  unfold kernelRun0_C
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  refine canon_pieces (outF x0 x1 x2 x3 x4 x5 x6 xs) _ ?_ y hcov
  exact ⟨out_piece x0 x1 x2 x3 x4 x5 x6 xs 7 _ rfl, out_piece x0 x1 x2 x3 x4 x5 x6 xs 6 _ rfl, out_piece x0 x1 x2 x3 x4 x5 x6 xs 5 _ rfl, out_piece x0 x1 x2 x3 x4 x5 x6 xs 4 _ rfl, out_piece x0 x1 x2 x3 x4 x5 x6 xs 3 _ rfl, out_piece x0 x1 x2 x3 x4 x5 x6 xs 2 _ rfl, out_piece x0 x1 x2 x3 x4 x5 x6 xs 1 _ rfl, out_piece x0 x1 x2 x3 x4 x5 x6 xs 0 _ rfl, trivial⟩

theorem sout_C_0 (c : Dev nD) (i : grid0.Coords) {a2 : Memref sig .tc .vmem S1x128x1024 .f32} (w2 : a2.IsWhole) {a3 : Memref sig .tc .vmem S1x128x1024 .f32} (w3 : a3.IsWhole) {a4 : Memref sig .tc .vmem S1x128x1024 .f32} (w4 : a4.IsWhole) {a5 : Memref sig .tc .vmem S128x128 .f32} (w5 : a5.IsWhole) {a6 : Memref sig .tc .vmem S128x128 .f32} (w6 : a6.IsWhole) {a7 : Memref sig .tc .vmem S8x128x128 .f32} (w7 : a7.IsWhole) {a8 : Memref sig .tc .vmem S8x128x128 .f32} (w8 : a8.IsWhole) {a9 : Memref sig .tc .vmem S8x128x128 .f32} (w9 : a9.IsWhole) {a10 : Memref sig .tc .vmem S8x128x128 .f32} (w10 : a10.IsWhole) {a11 : Memref sig .tc .vmem S1x128x1024 .f32} (w11 : a11.IsWhole) {a12 : Memref sig .tc .vmem S1x8x128x128 .f32} (w12 : a12.IsWhole) {a13 : Memref sig .tc .vmem S8x128x128 .f32} (w13 : a13.IsWhole) (hc0 : ¬cond0_0 i) (hc1 : cond0_1 i)
    (x0 x1 x2 : Vec Ideal S1x128x1024 .f32) (x3 x4 : Vec Ideal S128x128 .f32) (x5 x6 x7 x8 : Vec Ideal S8x128x128 .f32) (xs : Vec Ideal S8x128x128 .f32) (y : S8x128x128.Idx) :
    sout0_C_0 c i a2 w2 a3 w3 a4 w4 a5 w5 a6 w6 a7 w7 a8 w8 a9 w9 a10 w10 a11 w11 a12 w12 a13 w13 hc0 hc1 x0 x1 x2 x3 x4 x5 x6 x7 x8 xs y = stF x1 x2 x3 x4 x7 x8 xs y := by
  unfold sout0_C_0
  rw [View.read_writes_eq_canon _ _ _ (scover0_C_0 c i a2 w2 a3 w3 a4 w4 a5 w5 a6 w6 a7 w7 a8 w8 a9 w9 a10 w10 a11 w11 a12 w12 a13 w13 hc0 hc1 x0 x1 x2 x3 x4 x5 x6 x7 x8 xs)]
  have hcov := scover0_C_0 c i a2 w2 a3 w3 a4 w4 a5 w5 a6 w6 a7 w7 a8 w8 a9 w9 a10 w10 a11 w11 a12 w12 a13 w13 hc0 hc1 x0 x1 x2 x3 x4 x5 x6 x7 x8 xs y
  revert hcov
  unfold kernelRun0_C
  dsimp only
  sl_unfold_words
  simp only [View.readAt_eq_ld, w2.read_unread, w3.read_unread, w4.read_unread, w5.read_unread, w6.read_unread, w7.read_unread, w8.read_unread, w9.read_unread, w10.read_unread, w11.read_unread, w12.read_unread, w13.read_unread, View.ld_unit_zero (S := S1x128x1024) z3, View.ld_unit_zero (S := S128x128) z2]
  intro hcov
  refine canon_pieces (stF x1 x2 x3 x4 x7 x8 xs) _ ?_ y hcov
  exact ⟨st_piece x1 x2 x3 x4 x7 x8 xs 7 _ rfl, st_piece x1 x2 x3 x4 x7 x8 xs 6 _ rfl, st_piece x1 x2 x3 x4 x7 x8 xs 5 _ rfl, st_piece x1 x2 x3 x4 x7 x8 xs 4 _ rfl, st_piece x1 x2 x3 x4 x7 x8 xs 3 _ rfl, st_piece x1 x2 x3 x4 x7 x8 xs 2 _ rfl, st_piece x1 x2 x3 x4 x7 x8 xs 1 _ rfl, st_piece x1 x2 x3 x4 x7 x8 xs 0 _ rfl, trivial⟩

end Cert.RetBlock

end
-- ==== Proof.RetKernel.lean ====
/-
  The kernel's grid: after the point of batch `b` and chunk `n` the scratch buffer holds the state of the first `n + 1`
  chunks, and the point's output block is the chunk's output.
-/
module

public import proofs.«01_k».proof.Proof.RetBlock
public import proofs.«01_k».proof.Proof.RetSpec
public import Idealize.ShloMosaic.Lib.StableHlo.ReadAt
public import Idealize.ShloMosaic.Lib.Pipeline.ValueKit

@[expose] public section

set_option maxRecDepth 16384

noncomputable section

namespace Cert.RetKernel

open Idealize.ShloMosaic Idealize.ShloMosaic.TcCoe Idealize.SL.Sem Idealize.ShloMosaic.StableHlo Cert.KernelIdeal Cert.KernelIdeal.Gen Cert.RetHead Cert.RetBlock Cert.RetSpec

variable (m : (ℓ : Loc nD τ sig) → Buf (Elt Ideal) ℓ) (c : Dev nD)

theorem idx0 : ∀ t : Fin cfg0.N, win0_0.index t = ![t.val / 16, t.val % 16, 0] ∧ win0_1.index t = ![t.val / 16, t.val % 16, 1]
    ∧ win0_2.index t = ![t.val / 16, t.val % 16, 2] := by
  decide +kernel
theorem idx3 : ∀ t : Fin cfg0.N, win0_3.index t = ![t.val % 16, 0] ∧ win0_4.index t = ![t.val % 16, 0] := by
  decide +kernel
theorem idx5 : ∀ t : Fin cfg0.N, win0_5.index t = ![0, 0, 0] ∧ win0_6.index t = ![0, 0, 0] ∧ win0_7.index t = ![0, 0, 0]
    ∧ win0_8.index t = ![0, 0, 0] := by
  decide +kernel

/-- The batch of a grid point. -/
abbrev bat (t : Fin cfg0.N) : Fin 4 := ⟨t.val / 16, by have : t.val < 64 := t.isLt; omega⟩
/-- The chunk of a grid point. -/
abbrev chk (t : Fin cfg0.N) : Fin 16 := ⟨t.val % 16, by omega⟩

/-- The kernel's argument. -/
abbrev zK (b : Fin 4) (t : Fin 2048) (e : Fin 11264) : EReal := (m ((c : Thread nD τ).loc main_arg0) : FVec Ideal S4x2048x11264 .f32) (ix3 b t e)

/-! ## The blocks a grid point reads -/

theorem blk0 (t : Fin cfg0.N) (i : Fin 128) (h : Fin 8) (d : Fin 128) : (iblk m c 0 t : FVec Ideal S1x128x1024 .f32) (ix3 0 i (col h d))
    = zK m c (bat t) (row (chk t) i) ⟨h.val * 128 + d.val, by omega⟩ := by
  unfold zK
  rw [← V_main_arg0 m c]
  blk_ext [iblk, idx0 t]
theorem blk1 (t : Fin cfg0.N) (i : Fin 128) (h : Fin 8) (d : Fin 128) : (iblk m c 1 t : FVec Ideal S1x128x1024 .f32) (ix3 0 i (col h d))
    = zK m c (bat t) (row (chk t) i) ⟨1024 + (h.val * 128 + d.val), by omega⟩ := by
  unfold zK
  rw [← V_main_arg0 m c]
  blk_ext [iblk, idx0 t]
theorem blk2 (t : Fin cfg0.N) (i : Fin 128) (h : Fin 8) (d : Fin 128) : (iblk m c 2 t : FVec Ideal S1x128x1024 .f32) (ix3 0 i (col h d))
    = zK m c (bat t) (row (chk t) i) ⟨2048 + (h.val * 128 + d.val), by omega⟩ := by
  unfold zK
  rw [← V_main_arg0 m c]
  blk_ext [iblk, idx0 t]

/-- The table of cosines. -/
theorem cos_at (t : Fin 2048) (d : Fin 128) : (V m c main_v15 : FVec Ideal S2048x128 .f32) (ix2 t d)
    = (if d.val < 64 then Ideal.cos (ang t.val d.val) else Ideal.cos (ang t.val (d.val - 64)) : EReal) := by
  unfold V
  after_reads_at
  rfl
/-- The table of sines, those of the first half with their signs changed. -/
theorem sin_at (t : Fin 2048) (d : Fin 128) : (V m c main_v17 : FVec Ideal S2048x128 .f32) (ix2 t d)
    = (if d.val < 64 then -Ideal.sin (ang t.val d.val) else Ideal.sin (ang t.val (d.val - 64)) : EReal) := by
  unfold V
  after_reads_at
  rfl

theorem blk3 (t : Fin cfg0.N) (i d : Fin 128) : (iblk m c 3 t : FVec Ideal S128x128 .f32) (ix2 i d)
    = (if d.val < 64 then Ideal.cos (ang (t.val % 16 * 128 + i.val) d.val) else Ideal.cos (ang (t.val % 16 * 128 + i.val) (d.val - 64)) : EReal) := by
  rw [← cos_at m c (row (chk t) i) d]
  blk_ext [iblk, idx3 t]
theorem blk4 (t : Fin cfg0.N) (i d : Fin 128) : (iblk m c 4 t : FVec Ideal S128x128 .f32) (ix2 i d)
    = (if d.val < 64 then -Ideal.sin (ang (t.val % 16 * 128 + i.val) d.val) else Ideal.sin (ang (t.val % 16 * 128 + i.val) (d.val - 64)) : EReal) := by
  rw [← sin_at m c (row (chk t) i) d]
  blk_ext [iblk, idx3 t]

theorem dmat_at (h : Fin 8) (i j : Fin 128) : (V m c main_v42 : FVec Ideal S8x128x128 .f32) (ix3 h i j) = dmat h.val i.val j.val := by
  unfold V
  after_reads_at
  simp only [id_eq]
  pointwise
  rfl
theorem din_at (h : Fin 8) (i j : Fin 128) : (V m c main_v65 : FVec Ideal S8x128x128 .f32) (ix3 h i j) = din h.val i.val := by
  unfold V
  after_reads_at
  rfl
theorem dout_at (h : Fin 8) (i j : Fin 128) : (V m c main_v68 : FVec Ideal S8x128x128 .f32) (ix3 h i j) = dout h.val i.val := by
  unfold V
  after_reads_at
  rfl
theorem dch_at (h : Fin 8) (i j : Fin 128) : (V m c main_v71 : FVec Ideal S8x128x128 .f32) (ix3 h i j) = dch h.val := by
  unfold V
  after_reads_at
  rfl

theorem blk5 (t : Fin cfg0.N) (h : Fin 8) (i j : Fin 128) : (iblk m c 5 t : FVec Ideal S8x128x128 .f32) (ix3 h i j) = dmat h.val i.val j.val := by
  rw [← dmat_at m c h i j]
  blk_ext [iblk, idx5 t]
theorem blk6 (t : Fin cfg0.N) (h : Fin 8) (i j : Fin 128) : (iblk m c 6 t : FVec Ideal S8x128x128 .f32) (ix3 h i j) = din h.val i.val := by
  rw [← din_at m c h i j]
  blk_ext [iblk, idx5 t]
theorem blk7 (t : Fin cfg0.N) (h : Fin 8) (i j : Fin 128) : (iblk m c 7 t : FVec Ideal S8x128x128 .f32) (ix3 h i j) = dout h.val i.val := by
  rw [← dout_at m c h i j]
  blk_ext [iblk, idx5 t]
theorem blk8 (t : Fin cfg0.N) (h : Fin 8) (i j : Fin 128) : (iblk m c 8 t : FVec Ideal S8x128x128 .f32) (ix3 h i j) = dch h.val := by
  rw [← dch_at m c h i j]
  blk_ext [iblk, idx5 t]

/-! ## What a grid point computes -/

/-- The kernel's rotary, a rotation of the head by half its width, is the paired form. -/
theorem rot_at (t : Fin cfg0.N) (x : FVec Ideal S1x128x1024 .f32) (h : Fin 8) (i d : Fin 128) :
    rotE x (iblk m c 3 t) (iblk m c 4 t) h i d = rope (fun e => x (ix3 0 i (col h e))) (t.val % 16 * 128 + i.val) d := by
  unfold rotE rope
  rw [blk3, blk4]
  by_cases hd : d.val < 64
  · rw [if_pos hd, if_pos hd, dif_pos hd, mul_neg, sub_eq_add_neg]
    have e : half d = ⟨64 + d.val, by omega⟩ := Fin.ext (by dsimp only; omega)
    rw [e]
  · rw [if_neg hd, if_neg hd, dif_neg hd, add_comm]
    have e : half d = ⟨d.val - 64, by omega⟩ := Fin.ext (by dsimp only; omega)
    have e' : (⟨64 + (d.val - 64), by omega⟩ : Fin 128) = d := Fin.ext (by dsimp only; omega)
    rw [e, e']

theorem rot_q (t : Fin cfg0.N) (h : Fin 8) (i d : Fin 128) :
    rotE (iblk m c 0 t) (iblk m c 3 t) (iblk m c 4 t) h i d = q (zK m c) (bat t) (chk t) h i d := by
  rw [rot_at]
  simp only [blk0]
  rfl

theorem rot_k (t : Fin cfg0.N) (h : Fin 8) (i d : Fin 128) :
    rotE (iblk m c 1 t) (iblk m c 3 t) (iblk m c 4 t) h i d * RetHead.scale = k (zK m c) (bat t) (chk t) h i d := by
  rw [rot_at]
  simp only [blk1]
  rfl

/-- The output block of a point over the state `s`. -/
theorem out_val (t : Fin cfg0.N) (s : FVec Ideal S8x128x128 .f32) (h : Fin 8) (i w : Fin 128) :
    outE (iblk m c 0 t) (iblk m c 1 t) (iblk m c 2 t) (iblk m c 3 t) (iblk m c 4 t) (iblk m c 5 t) (iblk m c 6 t) s h i w
      = out (zK m c) (bat t) (chk t) (fun h d w => s (ix3 h d w)) h i w := by
  unfold outE out
  simp only [rot_q, rot_k, blk2, blk5, blk6]
  rfl

/-- The state a point leaves over the state `s`. -/
theorem st_val (t : Fin cfg0.N) (s : FVec Ideal S8x128x128 .f32) (h : Fin 8) (d w : Fin 128) :
    stE (iblk m c 1 t) (iblk m c 2 t) (iblk m c 3 t) (iblk m c 4 t) (iblk m c 7 t) (iblk m c 8 t) s h d w
      = next (zK m c) (bat t) (chk t) (fun h d w => s (ix3 h d w)) h d w := by
  unfold stE next
  simp only [rot_k, blk2, blk7, blk8]
  rfl

/-- What the buffers hold after a grid point: the output block, the state's copy at a batch's last point, the scratch state. -/
def Holds (t : Fin cfg0.N) (a : FVec Ideal S1x128x1024 .f32 × FVec Ideal S1x8x128x128 .f32 × FVec Ideal S8x128x128 .f32) : Prop :=
  (∀ h i w, a.1 (ix3 0 i (col h w)) = out (zK m c) (bat t) (chk t) (state (zK m c) (bat t) (chk t)) h i w)
  ∧ (t.val % 16 = 15 → ∀ h d w, a.2.1 (ix4 0 h d w) = state (zK m c) (bat t) ((chk t).val + 1) h d w)
  ∧ ∀ h d w, a.2.2 (ix3 h d w) = state (zK m c) (bat t) ((chk t).val + 1) h d w

theorem outF_at (t : Fin cfg0.N) (s : FVec Ideal S8x128x128 .f32) (h : Fin 8) (i w : Fin 128) :
    outF (iblk m c 0 t) (iblk m c 1 t) (iblk m c 2 t) (iblk m c 3 t) (iblk m c 4 t) (iblk m c 5 t) (iblk m c 6 t) s (ix3 0 i (col h w))
      = out (zK m c) (bat t) (chk t) (fun h d w => s (ix3 h d w)) h i w := by
  rw [← out_val]
  have h1 : (128 * h.val + w.val) / 128 = h.val := by omega
  have h2 : (128 * h.val + w.val) % 128 = w.val := by omega
  show outE _ _ _ _ _ _ _ _ ⟨(128 * h.val + w.val) / 128, _⟩ i ⟨(128 * h.val + w.val) % 128, _⟩ = _
  simp only [h1, h2]

theorem stF_at (t : Fin cfg0.N) (s : FVec Ideal S8x128x128 .f32) (h : Fin 8) (d w : Fin 128) :
    stF (iblk m c 1 t) (iblk m c 2 t) (iblk m c 3 t) (iblk m c 4 t) (iblk m c 7 t) (iblk m c 8 t) s (ix3 h d w)
      = next (zK m c) (bat t) (chk t) (fun h d w => s (ix3 h d w)) h d w := st_val m c t s h d w

/-- A first chunk starts from the zero state. -/
theorem zero_at (h : Fin 8) (d w : Fin 128) : (broadcast S8x128x128 (Scalar.ofBits .f32 0x00000000#32) : FVec Ideal S8x128x128 .f32) (ix3 h d w) = (0 : EReal) := by
  pointwise

theorem holds_A (t : Fin cfg0.N) (acc) (h0 : t.val % 16 = 0) : Holds m c t (Value.stAt0 m c t.val t.isLt acc) := by
  rw [Value.stAt0_A m c t acc h0 (by omega)]
  have hs : (fun h d w => (broadcast S8x128x128 (Scalar.ofBits .f32 0x00000000#32) : FVec Ideal S8x128x128 .f32) (ix3 h d w)) = state (zK m c) (bat t) (chk t) := by
    have : (chk t).val = 0 := h0
    rw [this]
    funext h d w
    exact zero_at h d w
  refine ⟨fun h i w => ?_, fun h15 => absurd h15 (by omega), fun h d w => ?_⟩
  · dsimp only
    rw [out_A_9, outF_at, hs]
  · dsimp only
    rw [sout_A_0, stF_at, hs, ← state_succ]

theorem holds_B (t : Fin cfg0.N) (acc) (h0 : ¬t.val % 16 = 0) (h1 : ¬t.val % 16 = 15)
    (hs : (fun h d w => acc.2.2 (ix3 h d w)) = state (zK m c) (bat t) (chk t)) : Holds m c t (Value.stAt0 m c t.val t.isLt acc) := by
  rw [Value.stAt0_B m c t acc h0 h1]
  refine ⟨fun h i w => ?_, fun h15 => absurd h15 h1, fun h d w => ?_⟩
  · dsimp only
    rw [out_B_9, outF_at, hs]
  · dsimp only
    rw [sout_B_0, stF_at, hs, ← state_succ]

theorem holds_C (t : Fin cfg0.N) (acc) (h0 : ¬t.val % 16 = 0) (h1 : t.val % 16 = 15)
    (hs : (fun h d w => acc.2.2 (ix3 h d w)) = state (zK m c) (bat t) (chk t)) : Holds m c t (Value.stAt0 m c t.val t.isLt acc) := by
  rw [Value.stAt0_C m c t acc h0 h1]
  refine ⟨fun h i w => ?_, fun _ h d w => ?_, fun h d w => ?_⟩
  · dsimp only
    rw [out_C_9, outF_at, hs]
  · dsimp only
    rw [out_C_10]
    refine (stF_at m c t _ h d w).trans ?_
    rw [hs, ← state_succ]
  · dsimp only
    rw [sout_C_0, stF_at, hs, ← state_succ]

/-- The buffers after every point. -/
theorem holds : ∀ (n : ℕ) (hn : n < cfg0.N), Holds m c ⟨n, hn⟩ (outsAt0 m c n hn)
  | 0, hn => by
    rw [Value.outsAt0_zero]
    exact holds_A m c ⟨0, hn⟩ _ rfl
  | n + 1, hn => by
    have ih := holds n (Nat.lt_of_succ_lt hn)
    rw [Value.outsAt0_succ]
    by_cases h0 : (n + 1) % 16 = 0
    · exact holds_A m c ⟨n + 1, hn⟩ _ h0
    have hs : (fun h d w => (outsAt0 m c n (Nat.lt_of_succ_lt hn)).2.2 (ix3 h d w)) = state (zK m c) (bat ⟨n + 1, hn⟩) (chk ⟨n + 1, hn⟩) := by
      have hb : bat ⟨n + 1, hn⟩ = bat ⟨n, Nat.lt_of_succ_lt hn⟩ := Fin.ext (by dsimp only; omega)
      have hc : (chk ⟨n + 1, hn⟩).val = (chk ⟨n, Nat.lt_of_succ_lt hn⟩).val + 1 := by dsimp only; omega
      rw [hb, hc]
      funext h d w
      exact ih.2.2 h d w
    by_cases h1 : (n + 1) % 16 = 15
    · exact holds_C m c ⟨n + 1, hn⟩ _ h0 h1 hs
    · exact holds_B m c ⟨n + 1, hn⟩ _ h0 h1 hs

/-- The kernel's first result: the outputs, chunk by chunk. -/
theorem G9_at (b : Fin 4) (t : Fin 2048) (e : Fin 1024) : (Value.G9 m c : FVec Ideal S4x2048x1024 .f32) (ix3 b t e)
    = out (zK m c) b ⟨t.val / 128, by omega⟩ (state (zK m c) b (t.val / 128)) ⟨e.val / 128, by omega⟩ ⟨t.val % 128, by omega⟩ ⟨e.val % 128, by omega⟩ := by
  have hp : Value.pt9Of (ix3 b t e) = 16 * b.val + t.val / 128 := by
    show 16 * (b.val / 1 - 0) + 1 * (t.val / 128 - 0) + 1 * (e.val / 1024 - 0) = _
    omega
  have hlt : 16 * b.val + t.val / 128 < cfg0.N := by show _ < 64; omega
  unfold Value.G9
  rw [dif_pos (by rw [hp]; exact hlt), ← Value.outsAt0_sweep]
  have H := (holds m c _ (show Value.pt9Of (ix3 b t e) < cfg0.N by rw [hp]; exact hlt)).1 ⟨e.val / 128, by omega⟩ ⟨t.val % 128, by omega⟩ ⟨e.val % 128, by omega⟩
  have hl : Value.loc9Of (ix3 b t e) = ix3 0 ⟨t.val % 128, by omega⟩ (col ⟨e.val / 128, by omega⟩ ⟨e.val % 128, by omega⟩) := by
    idx_ext
  rw [hl]
  refine H.trans ?_
  have hb : bat ⟨Value.pt9Of (ix3 b t e), by rw [hp]; exact hlt⟩ = b := Fin.ext (by dsimp only; rw [hp]; omega)
  have hc : chk ⟨Value.pt9Of (ix3 b t e), by rw [hp]; exact hlt⟩ = ⟨t.val / 128, by omega⟩ := Fin.ext (by dsimp only; rw [hp]; omega)
  rw [hb, hc]

/-- The kernel's second result: the state after the last chunk. -/
theorem G10_at (b : Fin 4) (h : Fin 8) (d w : Fin 128) : (Value.G10 m c : FVec Ideal S4x8x128x128 .f32) (ix4 b h d w) = state (zK m c) b 16 h d w := by
  have hp : Value.pt10Of (ix4 b h d w) = 16 * b.val + 15 := by
    show 16 * (1 * (b.val / 1 - 0) + 1 * (h.val / 8 - 0) + 1 * (d.val / 128 - 0) + 1 * (w.val / 128 - 0)) + 15 = _
    omega
  have hlt : 16 * b.val + 15 < cfg0.N := by show _ < 64; omega
  unfold Value.G10
  rw [dif_pos (by rw [hp]; exact hlt), ← Value.outsAt0_sweep]
  have H := (holds m c _ (show Value.pt10Of (ix4 b h d w) < cfg0.N by rw [hp]; exact hlt)).2.1 (by dsimp only; rw [hp]; omega) h d w
  have hl : Value.loc10Of (ix4 b h d w) = ix4 0 h d w := by
    idx_ext
  rw [hl]
  refine H.trans ?_
  have hb : bat ⟨Value.pt10Of (ix4 b h d w), by rw [hp]; exact hlt⟩ = b := Fin.ext (by dsimp only; rw [hp]; omega)
  have hc : (chk ⟨Value.pt10Of (ix4 b h d w), by rw [hp]; exact hlt⟩).val = 15 := by dsimp only; rw [hp]; omega
  rw [hb, hc]

end Cert.RetKernel

end
-- ==== Proof.InBody.lean ====
/-
  What the body of the input projection's kernel does to its buffers, at any grid point and for any values: the kept
  normalised rows, the block of the product, and the two copied-out stacks of heads.
-/
module

public import proofs.«01_k».proof.Proof.Gen.InProjIdeal.Skeleton
public import proofs.«01_k».proof.Proof.Gen.InProjIdeal.Frame
public import Idealize.ShloMosaic.Lib.VecWindow
public import Idealize.ShloMosaic.Lib.Pipeline.ValueKit

@[expose] public section

set_option maxRecDepth 16384

noncomputable section

namespace Cert.InBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window)
open Cert.InProjIdeal Cert.InProjIdeal.Gen

variable {F : FTy → Type} [FloatOps F]

local notation "𝕄" => MT nD τ sig Unit (Elt F) ℕ (UR sig nD τ) ℕ

/-- The column block is the first of its row block. -/
abbrev first (i : grid0.Coords) : Prop := (Scalar.cmpi .ne (Scalar.extui (Scalar.cmpi .eq (BitVec.ofNat 32 (i 1).val) 0#32)) 0#32) = 1#1

theorem row_of (t : Fin grid0.N) : (grid0.coords t 0).val = t.val / 22 % 8 := Pipeline.Grid.coords_val t 0 (by decide) rfl
theorem col_of (t : Fin grid0.N) : (grid0.coords t 1).val = t.val / 1 % 22 := Pipeline.Grid.coords_val t 1 (by decide) rfl

theorem first_iff (t : Fin grid0.N) : first (grid0.coords t) ↔ t.val % 22 = 0 := by
  have ht : t.val < 176 := Nat.lt_of_lt_of_eq t.isLt N_0
  simp only [first, col_of]
  word_cmp
theorem c2_iff (t : Fin grid0.N) : k0_cond2 (grid0.coords t) = 1#1 ↔ t.val % 22 = 10 := by
  have ht : t.val < 176 := Nat.lt_of_lt_of_eq t.isLt N_0
  simp only [k0_cond2, col_of]
  word_cmp
theorem c3_iff (t : Fin grid0.N) : k0_cond3 (grid0.coords t) = 1#1 ↔ t.val % 22 = 11 := by
  have ht : t.val < 176 := Nat.lt_of_lt_of_eq t.isLt N_0
  simp only [k0_cond3, col_of]
  word_cmp
theorem c4_iff (t : Fin grid0.N) : k0_cond4 (grid0.coords t) = 1#1 ↔ t.val % 22 = 12 := by
  have ht : t.val < 176 := Nat.lt_of_lt_of_eq t.isLt N_0
  simp only [k0_cond4, col_of]
  word_cmp
theorem c5_iff (t : Fin grid0.N) : k0_cond5 (grid0.coords t) = 1#1 ↔ t.val % 22 = 13 := by
  have ht : t.val < 176 := Nat.lt_of_lt_of_eq t.isLt N_0
  simp only [k0_cond5, col_of]
  word_cmp

/-- Four heads' halves put in a stack, the two halves four places apart. -/
def put4 (Y : Vec F S1024x8x128 .f32) (a b c d : Nat) (wa wb wc wd : Vec F S1024x1x128 .f32) : Vec F S1024x8x128 .f32 :=
  VecWindow.put (VecWindow.put (VecWindow.put (VecWindow.put Y ![0, a, 0] S1024x1x128.size wa) ![0, b, 0] S1024x1x128.size wb)
    ![0, c, 0] S1024x1x128.size wc) ![0, d, 0] S1024x1x128.size wd

/-- The first stack after the body, from the kept rows `S`, the weight block `x2` and the stack before. -/
def left4 (i : grid0.Coords) (S : Vec F S1024x2048 .bf16) (x2 : Vec F S2048x512 .bf16) (Y : Vec F S1024x8x128 .f32) : Vec F S1024x8x128 .f32 :=
  if k0_cond2 i = 1#1 then put4 Y 0 4 1 5 (k0_pay3 S x2) (k0_pay4 S x2) (k0_pay5 S x2) (k0_pay6 S x2)
  else if k0_cond3 i = 1#1 then put4 Y 2 6 3 7 (k0_pay7 S x2) (k0_pay8 S x2) (k0_pay9 S x2) (k0_pay10 S x2) else Y

/-- The second stack after the body. -/
def left5 (i : grid0.Coords) (S : Vec F S1024x2048 .bf16) (x2 : Vec F S2048x512 .bf16) (Y : Vec F S1024x8x128 .f32) : Vec F S1024x8x128 .f32 :=
  if k0_cond4 i = 1#1 then put4 Y 0 4 1 5 (k0_pay11 S x2) (k0_pay12 S x2) (k0_pay13 S x2) (k0_pay14 S x2)
  else if k0_cond5 i = 1#1 then put4 Y 2 6 3 7 (k0_pay15 S x2) (k0_pay16 S x2) (k0_pay17 S x2) (k0_pay18 S x2) else Y

/-- The kept rows after the body: normalised anew at a row block's first column block, as they were elsewhere. -/
def kept (i : grid0.Coords) (x0 : Vec F S1024x2048 .f32) (x1 : Vec F S1x2048 .f32) (xs : Vec F S1024x2048 .bf16) : Vec F S1024x2048 .bf16 :=
  if first i then k0_pay1 x0 x1 else xs

theorem z2 : (![0, 0] : Fin 2 → Nat) = fun _ => 0 := funext fun a => by fin_cases a <;> rfl

/-- A stack read back after four of its heads' halves are stored. -/
theorem read_put4 (a : Memref sig .tc .vmem S1024x8x128 .f32) (w : a.IsWhole) (Y : Vec F S1024x8x128 .f32) {p q r s : Nat}
    {hp : ∀ x, (![0, p, 0] : Fin 3 → Nat) x + S1024x1x128.size x ≤ S1024x8x128.size x} {hq : ∀ x, (![0, q, 0] : Fin 3 → Nat) x + S1024x1x128.size x ≤ S1024x8x128.size x}
    {hr : ∀ x, (![0, r, 0] : Fin 3 → Nat) x + S1024x1x128.size x ≤ S1024x8x128.size x} {hs : ∀ x, (![0, s, 0] : Fin 3 → Nat) x + S1024x1x128.size x ≤ S1024x8x128.size x}
    (wp wq wr ws : Vec F S1024x1x128 .f32) :
    a.view.read (Elt F) (a.view.writes (Elt F) (w.unread Y) [⟨Rect.unit (s := S1024x8x128) ![0, s, 0] S1024x1x128.size hs, ws⟩, ⟨Rect.unit (s := S1024x8x128) ![0, r, 0] S1024x1x128.size hr, wr⟩,
      ⟨Rect.unit (s := S1024x8x128) ![0, q, 0] S1024x1x128.size hq, wq⟩, ⟨Rect.unit (s := S1024x8x128) ![0, p, 0] S1024x1x128.size hp, wp⟩]) = put4 Y p q r s wp wq wr ws := by
  unfold put4
  rw [View.read_writes_cons_put _ _ _ _ _ rfl, View.read_writes_cons_put _ _ _ _ _ rfl, View.read_writes_cons_put _ _ _ _ _ rfl, View.read_writes_cons_put _ _ _ _ _ rfl, View.writes_nil,
    w.read_unread]

/-- The kept rows read back after they are stored. -/
theorem readCov_whole (a : Memref sig .tc .vmem S1024x2048 .bf16) {h h' : ∀ x, (![0, 0] : Fin 2 → Nat) x + S1024x2048.size x ≤ S1024x2048.size x} (w : Vec F S1024x2048 .bf16) :
    a.view.readCov (Val := Elt F) [⟨Rect.unit (s := S1024x2048) ![0, 0] S1024x2048.size h, w⟩] (Rect.unit (s := S1024x2048) ![0, 0] S1024x2048.size h').toLoadRect = w := by
  rw [View.readCov_eq_canon', View.canon_unit_zero z2]
  exact View.ld_unit_zero z2 _ _

/-- The five conditions of the body, at one point, are never two of them true. -/
def Cases (i : grid0.Coords) : Prop :=
  (first i ∧ ¬k0_cond2 i = 1#1 ∧ ¬k0_cond3 i = 1#1 ∧ ¬k0_cond4 i = 1#1 ∧ ¬k0_cond5 i = 1#1)
  ∨ (¬first i ∧ ¬k0_cond2 i = 1#1 ∧ ¬k0_cond3 i = 1#1 ∧ ¬k0_cond4 i = 1#1 ∧ ¬k0_cond5 i = 1#1)
  ∨ (¬first i ∧ k0_cond2 i = 1#1 ∧ ¬k0_cond3 i = 1#1 ∧ ¬k0_cond4 i = 1#1 ∧ ¬k0_cond5 i = 1#1)
  ∨ (¬first i ∧ ¬k0_cond2 i = 1#1 ∧ k0_cond3 i = 1#1 ∧ ¬k0_cond4 i = 1#1 ∧ ¬k0_cond5 i = 1#1)
  ∨ (¬first i ∧ ¬k0_cond2 i = 1#1 ∧ ¬k0_cond3 i = 1#1 ∧ k0_cond4 i = 1#1 ∧ ¬k0_cond5 i = 1#1)
  ∨ (¬first i ∧ ¬k0_cond2 i = 1#1 ∧ ¬k0_cond3 i = 1#1 ∧ ¬k0_cond4 i = 1#1 ∧ k0_cond5 i = 1#1)

theorem cases_of (t : Fin grid0.N) : Cases (grid0.coords t) := by
  unfold Cases
  rw [first_iff, c2_iff, c3_iff, c4_iff, c5_iff]
  omega

set_option maxHeartbeats 8000000 in
/-- The body's run. -/
theorem body_run (c : Dev nD) (i : grid0.Coords) (a2 : Memref sig .tc .vmem S1024x2048 .f32) (w2 : a2.IsWhole) (a3 : Memref sig .tc .vmem S1x2048 .f32) (w3 : a3.IsWhole)
    (a4 : Memref sig .tc .vmem S2048x512 .bf16) (w4 : a4.IsWhole) (a5 : Memref sig .tc .vmem S1024x512 .f32) (w5 : a5.IsWhole)
    (a6 : Memref sig .tc .vmem S1024x8x128 .f32) (w6 : a6.IsWhole) (a7 : Memref sig .tc .vmem S1024x8x128 .f32) (w7 : a7.IsWhole)
    (a8 : Memref sig .tc .vmem S1024x2048 .bf16) (w8 : a8.IsWhole) (hi : Cases i)
    (x0 : Vec F S1024x2048 .f32) (x1 : Vec F S1x2048 .f32) (x2 : Vec F S2048x512 .bf16) (x3 : Vec F S1024x512 .f32) (x4 x5 : Vec F S1024x8x128 .f32) (xs : Vec F S1024x2048 .bf16)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5 ∗ owns (c : Thread nD τ) a8 fullShare xs
        ∗ (iprop(owns (c : Thread nD τ) a2 fullShare x0 ∗ owns (c : Thread nD τ) a3 fullShare x1 ∗ owns (c : Thread nD τ) a4 fullShare x2
            ∗ owns (c : Thread nD τ) a5 fullShare (k0_pay2 (kept i x0 x1 xs) x2) ∗ owns (c : Thread nD τ) a6 fullShare (left4 i (kept i x0 x1 xs) x2 x4)
            ∗ owns (c : Thread nD τ) a7 fullShare (left5 i (kept i x0 x1 xs) x2 x5) ∗ owns (c : Thread nD τ) a8 fullShare (kept i x0 x1 xs)) -∗ K ⟨⟩))
      ⊢ wp frame (wpE (defs₀ (F := F)) Variants.none c none) E (cc0_in_proj i a2 w2 a3 w3 a4 w4 a5 w5 a6 w6 a7 w7 a8 w8) K := by
  unfold left4 left5 kept
  unfold Cases at hi
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := w2.eq_unread hf0; obtain rfl := w3.eq_unread hf1; obtain rfl := w4.eq_unread hf2
  obtain rfl := w6.eq_unread hf4; obtain rfl := w7.eq_unread hf5; obtain rfl := w8.eq_unread hfs
  rcases hi with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    first | rw [if_pos hc0] | rw [if_neg hc0]
    first | rw [if_pos hc1] | (rw [if_neg hc1]; first | rw [if_pos hc2] | rw [if_neg hc2])
    first | rw [if_pos hc3] | (rw [if_neg hc3]; first | rw [if_pos hc4] | rw [if_neg hc4])
    sl_exec (disch := first | sl_exact hc0 | sl_exact hc1 | sl_exact hc2 | sl_exact hc3 | sl_exact hc4)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; swap; · iexact H3
      ipureintro
      sl_unfold_words
      rw [View.read_writes_full]
      first
        | (simp only [View.readAt_eq_ld, w4.read_unread, w8.read_unread, View.ld_unit_zero (S := S1024x2048) z2, View.ld_unit_zero (S := S2048x512) z2, View.ld_unit_zero (S := S1x2048) z2]; done)
        | (rw [readCov_whole a8]
           simp only [View.readAt_eq_ld, w2.read_unread, w3.read_unread, w4.read_unread, View.ld_unit_zero (S := S1024x2048) z2, View.ld_unit_zero (S := S2048x512) z2, View.ld_unit_zero (S := S1x2048) z2])
    isplitl [H4]
    · iexists _; isplitr; swap; · iexact H4
      ipureintro
      sl_unfold_words
      first
        | with_reducible exact w6.read_unread _
        | (simp only [View.readAt_eq_ld, w4.read_unread, w8.read_unread, View.ld_unit_zero (S := S1024x2048) z2, View.ld_unit_zero (S := S2048x512) z2, View.ld_unit_zero (S := S1x2048) z2]; exact read_put4 a6 w6 x4 _ _ _ _)
    isplitl [H5]
    · iexists _; isplitr; swap; · iexact H5
      ipureintro
      sl_unfold_words
      first
        | with_reducible exact w7.read_unread _
        | (simp only [View.readAt_eq_ld, w4.read_unread, w8.read_unread, View.ld_unit_zero (S := S1024x2048) z2, View.ld_unit_zero (S := S2048x512) z2, View.ld_unit_zero (S := S1x2048) z2]; exact read_put4 a7 w7 x5 _ _ _ _)
    iexists _; isplitr; swap; · iexact HS
    ipureintro
    sl_unfold_words
    first
      | with_reducible exact w8.read_unread _
      | (rw [View.read_writes_full]; simp only [View.readAt_eq_ld, w2.read_unread, w3.read_unread, View.ld_unit_zero (S := S1024x2048) z2, View.ld_unit_zero (S := S2048x512) z2, View.ld_unit_zero (S := S1x2048) z2])

end Cert.InBody
-- ==== Proof.InRun.lean ====
/-
  The run of the input projection's kernel, for any values: what every grid point leaves in each window, as a relation
  to what it found there, and what the whole run leaves in memory.
-/
module

public import proofs.«01_k».proof.Proof.InBody

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window RDat)
open Cert.InProjIdeal Cert.InProjIdeal.Gen Cert.InBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block point `t` is in. -/
def base (t : Fin cfg0.N) : Fin cfg0.N := ⟨t.val / 22 * 22, by have := t.isLt; omega⟩

/-- The normalised rows kept while point `t`'s row block is worked on. -/
def rows (c : Dev nD) (t : Fin cfg0.N) : Vec F S1024x2048 .bf16 := k0_pay1 (iblk m c 0 (base t)) (iblk m c 1 (base t))

theorem rows_prev (c : Dev nD) (t : Fin cfg0.N) (h : ¬t.val % 22 = 0) (hp : t.val - 1 < cfg0.N) : rows m c ⟨t.val - 1, hp⟩ = rows m c t := by
  unfold rows
  rw [show base ⟨t.val - 1, hp⟩ = base t from Fin.ext (by show (t.val - 1) / 22 * 22 = t.val / 22 * 22; omega)]

/-- What the body keeps, from what was kept before the point. -/
theorem kept_eq (c : Dev nD) (t : Fin cfg0.N) (d : Vec F S1024x2048 .bf16) (hp : t.val - 1 < cfg0.N) (hd : t.val ≠ 0 → d = rows m c ⟨t.val - 1, hp⟩) :
    kept (grid0.coords t) (iblk m c 0 t) (iblk m c 1 t) d = rows m c t := by
  unfold kept
  by_cases h : t.val % 22 = 0
  · rw [if_pos ((first_iff t).mpr h)]
    unfold rows
    rw [show base t = t from Fin.ext (by show t.val / 22 * 22 = t.val; omega)]
  · rw [if_neg fun e => h ((first_iff t).mp e), hd fun e => h (by rw [e]), rows_prev m c t h hp]

/-- The invariant before point `t`: the kept rows are those of the point before, if there is one. -/
def inv (c : Dev nD) (t : Fin (cfg0.N + 1)) : sProp 𝕄 :=
  iprop((∃ d, ⌜∀ hp : t.val - 1 < cfg0.N, t.val ≠ 0 → d = rows m c ⟨t.val - 1, hp⟩⌝ ∗ owns (c : Thread nD τ) (Memref.whole cc0_scratch0) fullShare d) ∗ (∃ r, prngReg c r))

theorem scoped_eq (c : Dev nD) :
    (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

/-- The run's data: what each point leaves in each window, as a relation to what it found. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = k0_pay2 (rows m c t) (iblk m c 2 t)
    | ⟨4, _⟩ => X = left4 (grid0.coords t) (rows m c t) (iblk m c 2 t) Y
    | ⟨5, _⟩ => X = left5 (grid0.coords t) (rows m c t) (iblk m c 2 t) Y
  Φ t := inv m c t
  q _ := fullShare
  owed _ := 0

theorem A_eq (c : Dev nD) (w : Fin cfg0.W) : (rdat m c).A w = V m c (Pipeline.arrRef spec0 w) := by dsimp only [rdat]

/-- An input window's buffer holds its block at every point. -/
theorem finds0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rw [A_eq]; rfl
theorem finds1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rw [A_eq]; rfl
theorem finds2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rw [A_eq]; rfl

/-- What the body is called with at point `t`, the windows one by one, -/
def bodyPre (c : Dev nD) (t : Fin cfg0.N) (Y3 : Vec F S1024x512 .f32) (Y4 Y5 : Vec F S1024x8x128 .f32) : sProp 𝕄 :=
  iprop(inv m c t.castSucc ∗ (rdat m c).owesAt () t.castSucc
    ∗ owns (c : Thread nD τ) (win0_0.stage (cfg0.slots t 0)) fullShare (iblk m c 0 t) ∗ owns (c : Thread nD τ) (win0_1.stage (cfg0.slots t 1)) fullShare (iblk m c 1 t)
    ∗ owns (c : Thread nD τ) (win0_2.stage (cfg0.slots t 2)) fullShare (iblk m c 2 t) ∗ owns (c : Thread nD τ) (win0_3.stage (cfg0.slots t 3)) fullShare Y3
    ∗ owns (c : Thread nD τ) (win0_4.stage (cfg0.slots t 4)) fullShare Y4 ∗ owns (c : Thread nD τ) (win0_5.stage (cfg0.slots t 5)) fullShare Y5)

/-- and what it returns. -/
def bodyPost (c : Dev nD) (t : Fin cfg0.N) (Y4 Y5 : Vec F S1024x8x128 .f32) : sProp 𝕄 :=
  iprop(inv m c t.succ ∗ (rdat m c).owesAt () t.succ
    ∗ owns (c : Thread nD τ) (win0_0.stage (cfg0.slots t 0)) fullShare (iblk m c 0 t) ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (k0_pay2 (rows m c t) (iblk m c 2 t))
    ∗ owns (c : Thread nD τ) (win0_4.stage (cfg0.slots t 4)) fullShare (left4 (grid0.coords t) (rows m c t) (iblk m c 2 t) Y4)
    ∗ owns (c : Thread nD τ) (win0_5.stage (cfg0.slots t 5)) fullShare (left5 (grid0.coords t) (rows m c t) (iblk m c 2 t) Y5))

set_option maxHeartbeats 2400000 in
/-- The body at any point. -/
theorem sound_body (c : Dev nD) (t : Fin cfg0.N) (Y3 : Vec F S1024x512 .f32) (Y4 Y5 : Vec F S1024x8x128 .f32) :
    bodyPre m c t Y3 Y4 Y5 ⊢ wp frame (wpE (defs₀ (F := F)) Variants.none c none) Set.univ (bodyAt0 t) (fun _ => bodyPost m c t Y4 Y5) := by
  unfold bodyPre bodyPost bodyAt0
  rw [show (rdat m c).owesAt () t.succ = (rdat m c).owesAt () t.castSucc from rfl]
  unfold inv
  have hp : t.val - 1 < cfg0.N := Nat.lt_of_le_of_lt (Nat.sub_le _ _) t.isLt
  iintro ⟨⟨⟨%d, %hd, HS⟩, Hg⟩, Ho, H0, H1, H2, H3, H4, H5⟩
  have hk : kept (grid0.coords t) (iblk m c 0 t) (iblk m c 1 t) d = rows m c t := kept_eq m c t d hp (hd hp)
  iapply (body_run c (grid0.coords t) _ _ _ _ _ _ _ _ _ _ _ _ _ _ (cases_of t) (iblk m c 0 t) (iblk m c 1 t) (iblk m c 2 t) Y3 Y4 Y5 d Set.univ _)
  rw [hk]
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexists (rows m c t); isplitr
      · ipureintro; intro hp' _; rfl
      iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

/-- What was returned is in the relation to what was found. -/
theorem post_weaken (c : Dev nD) (t : Fin cfg0.N) (Y : (w : Fin cfg0.W) → (cfg0.win w).block.Idx → Elt F (cfg0.win w).elt) (h0 : Y 0 = iblk m c 0 t) (h1 : Y 1 = iblk m c 1 t) (h2 : Y 2 = iblk m c 2 t) :
    bodyPost m c t (Y 4) (Y 5) ⊢ iprop((rdat m c).Φ t.succ ∗ (rdat m c).owesAt () t.succ
      ∗ bigSep Finset.univ fun w => iprop(∃ X, ⌜(rdat m c).after w t (Y w) X⌝ ∗ owns (c : Thread nD τ) ((cfg0.win w).stage (cfg0.slots t w)) fullShare X)) := by
  rw [bigSep_W0, show (rdat m c).Φ t.succ = inv m c t.succ from rfl]
  unfold bodyPost
  iintro ⟨Hi, Ho, H0, H1, H2, H3, H4, H5⟩
  isplitl [Hi]; · iexact Hi
  isplitl [Ho]; · iexact Ho
  isplitl [H0]
  · iexists _; isplitr; swap; · iexact H0
    ipureintro; exact h0.symm
  isplitl [H1]
  · iexists _; isplitr; swap; · iexact H1
    ipureintro; exact h1.symm
  isplitl [H2]
  · iexists _; isplitr; swap; · iexact H2
    ipureintro; exact h2.symm
  isplitl [H3]
  · iexists _; isplitr; swap; · iexact H3
    ipureintro; rfl
  isplitl [H4]
  · iexists _; isplitr; swap; · iexact H4
    ipureintro; rfl
  iexists _; isplitr; swap; · iexact H5
  ipureintro; rfl

theorem body_obligation (c : Dev nD) : (rdat m c).BodyObligation (defs₀ (F := F)) Variants.none () Set.univ := fun t Y hY => by
  have h0 := finds0 m c t _ (hY 0)
  have h1 := finds1 m c t _ (hY 1)
  have h2 := finds2 m c t _ (hY 2)
  rw [defs₀_row]
  refine triple_restated (sound_body m c t (Y 3) (Y 4) (Y 5)) rfl ?_ fun _ => post_weaken m c t Y h0 h1 h2
  rw [bigSep_W0]
  unfold bodyPre
  rw [h0, h1, h2]
  exact .rfl

theorem inv_in (c : Dev nD) : (Pipeline.ΦA spec0 c : sProp 𝕄) ⊢ inv m c 0 := by
  rw [scoped_eq]
  unfold inv
  iintro ⟨⟨%d, H⟩, Hg⟩
  isplitl [H]
  · iexists d; isplitr
    · ipureintro; intro _ h; exact absurd rfl h
    iexact H
  iexact Hg

theorem inv_out (c : Dev nD) : inv m c (Fin.last cfg0.N) ⊢ (Pipeline.ΦA spec0 c : sProp 𝕄) := by
  rw [scoped_eq]
  unfold inv
  iintro ⟨⟨%d, -, H⟩, Hg⟩
  isplitl [H]; · iexists d; iexact H
  iexact Hg

set_option backward.isDefEq.respectTransparency.types false in
/-- The run: every fair execution ends, with each array at contents the relation allows and every counter at zero. -/
theorem run_main : θ_run defs (onTc (τ := τ) (main (F := F))) (s₀ m ρ) (fun r => Pipeline.RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => by unfold RDat.share; exact ite_self _) (howed := fun _ _ => rfl) (V := V m) (hmain := hmain m Variants.none) (hA := A_eq m)
    (hin := inv_in m) (hout := inv_out m) (hQ' := fun _ h => h)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.InRun
-- ==== Proof.InSpec.lean ====
/-
  The input projection as a formula: row by row, the input divided by the root of its mean square, scaled, times the weights.
-/
module

public import Idealize.ShloMosaic.Lib.Pointwise
public import Idealize.ShloMosaic.Lib.ValueIdx
public import Idealize.ShloMosaic.Lib.Pipeline.Value
public import proofs.«01_k».proof.InProjIdeal

@[expose] public section

noncomputable section

namespace Cert.InSpec

open Idealize.ShloMosaic Cert.InProjIdeal

variable (x : FVec Ideal S4x2048x2048 .f32) (g : FVec Ideal S2048 .f32) (w : FVec Ideal S2048x11264 .f32)

/-- Row `R` of the input, its batches laid one after another. -/
def row (R : Fin 8192) (k : Fin 2048) : Ideal .f32 := x (ix3 ⟨R.val / 2048, by omega⟩ ⟨R.val % 2048, by omega⟩ k)

/-- The row divided by the root of its mean square, and scaled. -/
def nrm (R : Fin 8192) (k : Fin 2048) : Ideal .f32 :=
  row x R k * Ideal.rsqrt (Ideal.div (∑ j, row x R j * row x R j) (Ideal.ofBits FTy.f32 1157627904#32) + Ideal.ofBits FTy.f32 897988541#32) * g (ix1 k)

/-- The projection. -/
def z (R : Fin 8192) (n : Fin 11264) : Ideal .f32 := ∑ k, nrm x g R k * w (ix2 k n)

/-- The column of the projection that lane `l` of slot `s` of a stack from column `o` on is copied from: slot `s` is half `s / 4` of head `s % 4`. -/
def colOf (o : Nat) (ho : o + 1024 ≤ 11264) (s : Fin 8) (l : Fin 128) : Fin 11264 := ⟨o + (s.val % 4 * 256 + (s.val / 4 * 128 + l.val)), by omega⟩

end Cert.InSpec

end
-- ==== Proof.InValue.lean ====
/-
  What the input projection's kernel computes, over the extended reals: the projection, and its key and value columns
  stacked by half and head.
-/
module

public import proofs.«01_k».proof.Proof.InRun
public import proofs.«01_k».proof.Proof.InSpec
public import Idealize.ShloMosaic.Lib.StableHlo.ReadAt
public import Idealize.ShloMosaic.Lib.Pipeline.ValueKit
public import Idealize.ShloMosaic.Lib.Pipeline.ArrRel

@[expose] public section

set_option maxRecDepth 16384

noncomputable section

namespace Cert.InValue

open Idealize.ShloMosaic Idealize.ShloMosaic.TcCoe Idealize.SL.Sem Idealize.ShloMosaic.StableHlo
open Idealize.ShloMosaic.Pipeline (Cfg Window RDat)
open Cert.InProjIdeal Cert.InProjIdeal.Gen Cert.InBody Cert.InRun Cert.InSpec

variable (m : (ℓ : Loc nD τ sig) → Buf (Elt Ideal) ℓ) (c : Dev nD)

/-- The kernel's arguments: the input, the scales, the weights. -/
abbrev xK : FVec Ideal S4x2048x2048 .f32 := m ((c : Thread nD τ).loc main_arg0)
@[inherit_doc xK] abbrev gK : FVec Ideal S2048 .f32 := m ((c : Thread nD τ).loc main_arg1)
@[inherit_doc xK] abbrev wK : FVec Ideal S2048x11264 .f32 := m ((c : Thread nD τ).loc main_arg2)

/-! ## What a grid point reads -/

theorem in_at (R : Fin 8192) (k : Fin 2048) : (V m c main_v0 : FVec Ideal S8192x2048 .f32) (ix2 R k) = row (xK m c) R k := by
  unfold V row
  after_reads_at
theorem scale_at (k : Fin 2048) : (V m c main_v2 : FVec Ideal S1x2048 .f32) (ix2 0 k) = gK m c (ix1 k) := by
  unfold V
  after_reads_at
theorem weight_at (k : Fin 2048) (n : Fin 11264) : (V m c main_v1 : FVec Ideal S2048x11264 .bf16) (ix2 k n) = wK m c (ix2 k n) := by
  unfold V
  after_reads_at

theorem idx0 : ∀ t : Fin cfg0.N, win0_0.index t = ![t.val / 22, 0] ∧ win0_1.index t = ![0, 0] ∧ win0_2.index t = ![0, t.val % 22] := by
  decide +kernel

/-- The row of the input that row `r` of point `t`'s block is. -/
abbrev rowAt (t : Fin cfg0.N) (r : Fin 1024) : Fin 8192 := ⟨t.val / 22 * 1024 + r.val, by have : t.val < 176 := t.isLt; omega⟩
/-- The column of the projection that column `n` of point `t`'s block is. -/
abbrev colAt (t : Fin cfg0.N) (n : Fin 512) : Fin 11264 := ⟨t.val % 22 * 512 + n.val, by omega⟩

theorem blk0 (t : Fin cfg0.N) (r : Fin 1024) (k : Fin 2048) : (iblk m c 0 t : FVec Ideal S1024x2048 .f32) (ix2 r k) = row (xK m c) (rowAt t r) k := by
  rw [← in_at m c]
  blk_ext [iblk, idx0 t]
theorem blk1 (t : Fin cfg0.N) (k : Fin 2048) : (iblk m c 1 t : FVec Ideal S1x2048 .f32) (ix2 0 k) = gK m c (ix1 k) := by
  rw [← scale_at m c]
  blk_ext [iblk, idx0 t]
theorem blk2 (t : Fin cfg0.N) (k : Fin 2048) (n : Fin 512) : (iblk m c 2 t : FVec Ideal S2048x512 .bf16) (ix2 k n) = wK m c (ix2 k (colAt t n)) := by
  rw [← weight_at m c]
  blk_ext [iblk, idx0 t]

/-! ## What a grid point computes -/

theorem pay1_at (x0 : FVec Ideal S1024x2048 .f32) (x1 : FVec Ideal S1x2048 .f32) (r : Fin 1024) (k : Fin 2048) : k0_pay1 (F := Ideal) x0 x1 (ix2 r k)
    = x0 (ix2 r k) * Ideal.rsqrt (Ideal.div (∑ j, x0 (ix2 r j) * x0 (ix2 r j)) (Ideal.ofBits FTy.f32 1157627904#32) + Ideal.ofBits FTy.f32 897988541#32) * x1 (ix2 0 k) := by
  unfold k0_pay1
  pointwise
theorem pay2_at (x0 : FVec Ideal S1024x2048 .bf16) (x1 : FVec Ideal S2048x512 .bf16) (r : Fin 1024) (n : Fin 512) : k0_pay2 (F := Ideal) x0 x1 (ix2 r n)
    = ∑ k, x0 (ix2 r k) * x1 (ix2 k n) := by
  unfold k0_pay2
  pointwise

theorem rows_at (t : Fin cfg0.N) (r : Fin 1024) (k : Fin 2048) : (rows m c t : FVec Ideal S1024x2048 .bf16) (ix2 r k) = nrm (xK m c) (gK m c) (rowAt t r) k := by
  unfold rows nrm
  rw [pay1_at]
  simp only [blk0, blk1]
  rw [show rowAt (base t) r = rowAt t r from Fin.ext (by show t.val / 22 * 22 / 22 * 1024 + r.val = t.val / 22 * 1024 + r.val; omega)]

/-- Point `t`'s block of the projection. -/
theorem prod_at (t : Fin cfg0.N) (r : Fin 1024) (n : Fin 512) : k0_pay2 (rows m c t) (iblk m c 2 t) (ix2 r n) = z (xK m c) (gK m c) (wK m c) (rowAt t r) (colAt t n) := by
  unfold z
  rw [pay2_at]
  exact Finset.sum_congr rfl fun k _ => by rw [rows_at, blk2]

/-! ## The stacks -/

/-- One half of a head put in a stack. -/
theorem put_at (Y : FVec Ideal S1024x8x128 .f32) (a : Nat) (p : FVec Ideal S1024x1x128 .f32) (r : Fin 1024) (s : Fin 8) (l : Fin 128) :
    VecWindow.put Y ![0, a, 0] S1024x1x128.size p (ix3 r s l) = if s.val = a then p (ix3 r 0 l) else Y (ix3 r s l) := by
  unfold VecWindow.put
  by_cases h : s.val = a
  · rw [if_pos h, dif_pos (fun x => by fin_cases x <;> simp [h])]
    congr 1
    funext x
    fin_cases x <;> apply Fin.ext <;> simp [Rect.unitLocal, h]
  · rw [if_neg h, dif_neg fun hx => h (by have := hx 1; simp at this; omega)]

/-- The four halves of two heads cut from a block of the projection. -/
theorem pays_at (S : FVec Ideal S1024x2048 .bf16) (x2 : FVec Ideal S2048x512 .bf16) (r : Fin 1024) (l : Fin 128) :
    k0_pay3 (F := Ideal) S x2 (ix3 r 0 l) = k0_pay2 (F := Ideal) S x2 (ix2 r ⟨l.val, by omega⟩) ∧ k0_pay4 (F := Ideal) S x2 (ix3 r 0 l) = k0_pay2 (F := Ideal) S x2 (ix2 r ⟨128 + l.val, by omega⟩)
    ∧ k0_pay5 (F := Ideal) S x2 (ix3 r 0 l) = k0_pay2 (F := Ideal) S x2 (ix2 r ⟨256 + l.val, by omega⟩) ∧ k0_pay6 (F := Ideal) S x2 (ix3 r 0 l) = k0_pay2 (F := Ideal) S x2 (ix2 r ⟨384 + l.val, by omega⟩) := by
  refine ⟨?_, ?_, ?_, ?_⟩
  · unfold k0_pay3
    pointwise
  · unfold k0_pay4
    pointwise
  · unfold k0_pay5
    pointwise
  · unfold k0_pay6
    pointwise

/-- A stack after the halves of heads `p` and `p + 1` are put in it. -/
theorem put4_at (S : FVec Ideal S1024x2048 .bf16) (x2 : FVec Ideal S2048x512 .bf16) (Y : FVec Ideal S1024x8x128 .f32) (p : Nat) (hp : p = 0 ∨ p = 2) (r : Fin 1024) (s : Fin 8) (l : Fin 128) :
    put4 (F := Ideal) Y p (p + 4) (p + 1) (p + 5) (k0_pay3 (F := Ideal) S x2) (k0_pay4 (F := Ideal) S x2) (k0_pay5 (F := Ideal) S x2) (k0_pay6 (F := Ideal) S x2) (ix3 r s l)
      = if s.val % 4 / 2 * 2 = p then k0_pay2 (F := Ideal) S x2 (ix2 r ⟨s.val % 2 * 256 + (s.val / 4 * 128 + l.val), by omega⟩) else Y (ix3 r s l) := by
  obtain ⟨h3, h4, h5, h6⟩ := pays_at S x2 r l
  unfold put4
  rw [put_at, put_at, put_at, put_at, h3, h4, h5, h6]
  rcases hp with rfl | rfl <;> fin_cases s <;> simp <;> (congr 2; apply Fin.ext; simp; try omega)

/-- A stack of the columns from `512 q` on, after point `t`: points `q` and `q + 1` of a row block each put two heads in it. -/
theorem two_at (t : Fin cfg0.N) (q : Nat) (hq : q * 512 + 1024 ≤ 11264) (d d' : Prop) [Decidable d] [Decidable d'] (hd : d ↔ t.val % 22 = q) (hd' : d' ↔ t.val % 22 = q + 1)
    (Y : FVec Ideal S1024x8x128 .f32) (r : Fin 1024) (s : Fin 8) (l : Fin 128) :
    (if d then put4 (F := Ideal) Y 0 4 1 5 (k0_pay3 (rows m c t) (iblk m c 2 t)) (k0_pay4 (rows m c t) (iblk m c 2 t)) (k0_pay5 (rows m c t) (iblk m c 2 t)) (k0_pay6 (rows m c t) (iblk m c 2 t))
      else if d' then put4 (F := Ideal) Y 2 6 3 7 (k0_pay3 (rows m c t) (iblk m c 2 t)) (k0_pay4 (rows m c t) (iblk m c 2 t)) (k0_pay5 (rows m c t) (iblk m c 2 t)) (k0_pay6 (rows m c t) (iblk m c 2 t))
      else Y) (ix3 r s l)
      = if t.val % 22 = q + s.val % 4 / 2 then z (xK m c) (gK m c) (wK m c) (rowAt t r) (colOf (q * 512) hq s l) else Y (ix3 r s l) := by
  have put (p : Nat) (hp : p = 0 ∨ p = 2) (ht : t.val % 22 = q + p / 2) :
      put4 (F := Ideal) Y p (p + 4) (p + 1) (p + 5) (k0_pay3 (rows m c t) (iblk m c 2 t)) (k0_pay4 (rows m c t) (iblk m c 2 t)) (k0_pay5 (rows m c t) (iblk m c 2 t))
          (k0_pay6 (rows m c t) (iblk m c 2 t)) (ix3 r s l)
        = if t.val % 22 = q + s.val % 4 / 2 then z (xK m c) (gK m c) (wK m c) (rowAt t r) (colOf (q * 512) hq s l) else Y (ix3 r s l) := by
    rw [put4_at (rows m c t) (iblk m c 2 t) Y p hp r s l, prod_at]
    by_cases hs : s.val % 4 / 2 * 2 = p
    · rw [if_pos hs, if_pos (by omega)]
      refine congrArg (z _ _ _ _) (Fin.ext ?_)
      simp only [colOf]
      omega
    · rw [if_neg hs, if_neg (by omega)]
  by_cases h : d
  · rw [if_pos h]
    exact put 0 (.inl rfl) (hd.mp h)
  · have ht : ¬t.val % 22 = q := fun e => h (hd.mpr e)
    rw [if_neg h]
    by_cases h' : d'
    · rw [if_pos h']
      exact put 2 (.inr rfl) (hd'.mp h')
    · have ht' : ¬t.val % 22 = q + 1 := fun e => h' (hd'.mpr e)
      rw [if_neg h', if_neg (by omega)]

theorem left4_at (t : Fin cfg0.N) (Y : FVec Ideal S1024x8x128 .f32) (r : Fin 1024) (s : Fin 8) (l : Fin 128) :
    left4 (F := Ideal) (grid0.coords t) (rows m c t) (iblk m c 2 t) Y (ix3 r s l)
      = if t.val % 22 = 10 + s.val % 4 / 2 then z (xK m c) (gK m c) (wK m c) (rowAt t r) (colOf 5120 (by decide) s l) else Y (ix3 r s l) :=
  two_at m c t 10 (by decide) _ _ (c2_iff t) (c3_iff t) Y r s l
theorem left5_at (t : Fin cfg0.N) (Y : FVec Ideal S1024x8x128 .f32) (r : Fin 1024) (s : Fin 8) (l : Fin 128) :
    left5 (F := Ideal) (grid0.coords t) (rows m c t) (iblk m c 2 t) Y (ix3 r s l)
      = if t.val % 22 = 12 + s.val % 4 / 2 then z (xK m c) (gK m c) (wK m c) (rowAt t r) (colOf 6144 (by decide) s l) else Y (ix3 r s l) :=
  two_at m c t 12 (by decide) _ _ (c4_iff t) (c5_iff t) Y r s l

/-- What a window holds after point `t`, if its element `y` is written at the `p y`-th point of a row block only: the element written. -/
theorem leaves_at (w : Fin cfg0.W) (p : (cfg0.win w).block.Idx → Nat) (E : Fin cfg0.N → (cfg0.win w).block.Idx → Elt Ideal (cfg0.win w).elt)
    (hp : ∀ y, 0 < p y) (hE : ∀ t u : Fin cfg0.N, t.val / 22 = u.val / 22 → E t = E u)
    (hfetch : ∀ t, (cfg0.win w).fetch t = false) (hflush : ∀ t, (cfg0.win w).flush t = true ↔ t.val % 22 = 21)
    (hafter : ∀ t Y X, (rdat m c).after w t Y X → ∀ y, X y = if t.val % 22 = p y then E t y else Y y) :
    ∀ (n : Nat) (t : Fin cfg0.N), t.val = n → ∀ X, (rdat m c).Leaves w t X → ∀ y, p y ≤ n % 22 → X y = E t y := by
  intro n
  induction n with
  | zero => exact fun t _ X _ y h => absurd (hp y) (by omega)
  | succ n ih =>
    intro t ht X hX y hy
    obtain ⟨Y, hY, ha⟩ := hX
    rw [hafter t Y X ha y, ht]
    by_cases h : (n + 1) % 22 = p y
    · rw [if_pos h]
    · rw [if_neg h]
      have hp := hp y
      rcases ((rdat m c).finds_of_pos (hfetch t) (by omega) Y).mp hY with hf | hl
      · have := (hflush _).mp hf
        dsimp only at this
        omega
      · rw [ih _ (by dsimp only; omega) Y hl y (by omega), hE _ t (by dsimp only; omega)]

theorem leaves4 (t : Fin cfg0.N) (h : t.val % 22 = 21) (X) (hX : (rdat m c).Leaves 4 t X) (r : Fin 1024) (s : Fin 8) (l : Fin 128) :
    (X : FVec Ideal S1024x8x128 .f32) (ix3 r s l) = z (xK m c) (gK m c) (wK m c) (rowAt t r) (colOf 5120 (by decide) s l) :=
  leaves_at m c 4 (fun (y : S1024x8x128.Idx) => 10 + (y 1).val % 4 / 2) (fun t (y : S1024x8x128.Idx) => z (xK m c) (gK m c) (wK m c) (rowAt t (y 0)) (colOf 5120 (by decide) (y 1) (y 2)))
    (fun _ => by omega) (fun t u e => by unfold rowAt; simp only [e]) (fun _ => rfl) flush0_4
    (fun t Y X ha (y : S1024x8x128.Idx) => by
      obtain ⟨r, s, l, rfl⟩ : ∃ (r : Fin 1024) (s : Fin 8) (l : Fin 128), y = ix3 r s l := ⟨y 0, y 1, y 2, eq_ix3 y⟩
      exact (congrFun (ha : X = left4 (F := Ideal) (grid0.coords t) (rows m c t) (iblk m c 2 t) Y) _).trans (left4_at m c t Y r s l))
    t.val t rfl X hX (ix3 r s l) (by show 10 + s.val % 4 / 2 ≤ t.val % 22; omega)
theorem leaves5 (t : Fin cfg0.N) (h : t.val % 22 = 21) (X) (hX : (rdat m c).Leaves 5 t X) (r : Fin 1024) (s : Fin 8) (l : Fin 128) :
    (X : FVec Ideal S1024x8x128 .f32) (ix3 r s l) = z (xK m c) (gK m c) (wK m c) (rowAt t r) (colOf 6144 (by decide) s l) :=
  leaves_at m c 5 (fun (y : S1024x8x128.Idx) => 12 + (y 1).val % 4 / 2) (fun t (y : S1024x8x128.Idx) => z (xK m c) (gK m c) (wK m c) (rowAt t (y 0)) (colOf 6144 (by decide) (y 1) (y 2)))
    (fun _ => by omega) (fun t u e => by unfold rowAt; simp only [e]) (fun _ => rfl) flush0_5
    (fun t Y X ha (y : S1024x8x128.Idx) => by
      obtain ⟨r, s, l, rfl⟩ : ∃ (r : Fin 1024) (s : Fin 8) (l : Fin 128), y = ix3 r s l := ⟨y 0, y 1, y 2, eq_ix3 y⟩
      exact (congrFun (ha : X = left5 (F := Ideal) (grid0.coords t) (rows m c t) (iblk m c 2 t) Y) _).trans (left5_at m c t Y r s l))
    t.val t rfl X hX (ix3 r s l) (by show 12 + s.val % 4 / 2 ≤ t.val % 22; omega)
theorem leaves3 (t : Fin cfg0.N) (X) (hX : (rdat m c).Leaves 3 t X) (r : Fin 1024) (n : Fin 512) :
    (X : FVec Ideal S1024x512 .f32) (ix2 r n) = z (xK m c) (gK m c) (wK m c) (rowAt t r) (colAt t n) := by
  obtain ⟨Y, -, ha⟩ := hX
  exact (congrFun (ha : X = k0_pay2 (rows m c t) (iblk m c 2 t)) _).trans (prod_at m c t r n)

/-! ## The arrays the run ends with -/

/-- The projection's array. -/
def G0 : FVec Ideal S8192x11264 .f32 := fun i => z (xK m c) (gK m c) (wK m c) (i 0) (i 1)
/-- The stack of the columns from `o` on. -/
def GS (o : Nat) (ho : o + 1024 ≤ 11264) : FVec Ideal S8192x8x128 .f32 := fun i => z (xK m c) (gK m c) (wK m c) (i 0) (colOf o ho (i 1) (i 2))

theorem idx3 : ∀ t : Fin cfg0.N, win0_3.index t = ![t.val / 22, t.val % 22] ∧ win0_4.index t = ![t.val / 22, 0, 0] ∧ win0_5.index t = ![t.val / 22, 0, 0] := by
  decide +kernel

theorem arr3 (after) (h : ∀ t, (cfg0.win 3).flush t = true → (rdat m c).Leaves 3 t (after 3 t)) : ((rdat m c).withAfter after).arrAt 3 cfg0.N = G0 m c := by
  refine ((rdat m c).withAfter after).arrAt_eq_of_covers 3 _ (by decide +kernel) fun t hf (y : S1024x512.Idx) => ?_
  obtain ⟨r, n, rfl⟩ : ∃ (r : Fin 1024) (n : Fin 512), y = ix2 r n := ⟨y 0, y 1, eq_ix2 y⟩
  refine (leaves3 m c t _ (h t hf) r n).trans (?_ : _ = G0 m c ((win0_3.blk t).view.emb (ix2 r n)))
  have e0 : (win0_3.blk t).view.emb (ix2 r n) = ix2 (rowAt t r) (colAt t n) := by
    blk_ext [idx3 t]
  rw [e0]
  rfl
theorem arr4 (after) (h : ∀ t, (cfg0.win 4).flush t = true → (rdat m c).Leaves 4 t (after 4 t)) : ((rdat m c).withAfter after).arrAt 4 cfg0.N = GS m c 5120 (by decide) := by
  refine ((rdat m c).withAfter after).arrAt_eq_of_covers 4 _ (by decide +kernel) fun t hf (y : S1024x8x128.Idx) => ?_
  obtain ⟨r, s, l, rfl⟩ : ∃ (r : Fin 1024) (s : Fin 8) (l : Fin 128), y = ix3 r s l := ⟨y 0, y 1, y 2, eq_ix3 y⟩
  refine (leaves4 m c t ((flush0_4 t).mp hf) _ (h t hf) r s l).trans (?_ : _ = GS m c 5120 _ ((win0_4.blk t).view.emb (ix3 r s l)))
  have e0 : (win0_4.blk t).view.emb (ix3 r s l) = ix3 (rowAt t r) s l := by
    blk_ext [idx3 t]
  rw [e0]
  rfl
theorem arr5 (after) (h : ∀ t, (cfg0.win 5).flush t = true → (rdat m c).Leaves 5 t (after 5 t)) : ((rdat m c).withAfter after).arrAt 5 cfg0.N = GS m c 6144 (by decide) := by
  refine ((rdat m c).withAfter after).arrAt_eq_of_covers 5 _ (by decide +kernel) fun t hf (y : S1024x8x128.Idx) => ?_
  obtain ⟨r, s, l, rfl⟩ : ∃ (r : Fin 1024) (s : Fin 8) (l : Fin 128), y = ix3 r s l := ⟨y 0, y 1, y 2, eq_ix3 y⟩
  refine (leaves5 m c t ((flush0_5 t).mp hf) _ (h t hf) r s l).trans (?_ : _ = GS m c 6144 _ ((win0_5.blk t).view.emb (ix3 r s l)))
  have e0 : (win0_5.blk t).view.emb (ix3 r s l) = ix3 (rowAt t r) s l := by
    blk_ext [idx3 t]
  rw [e0]
  rfl

/-- The run ends with the projection, its two stacks, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v3_0) = G0 m c
      ∧ r.2.mem ((c.tc : Thread nD τ).loc main_v3_1) = GS m c 5120 (by decide)
      ∧ r.2.mem ((c.tc : Thread nD τ).loc main_v3_2) = GS m c 6144 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨after, hl, ha⟩ := Pipeline.RDat.FramePost.exists_exact h.1 c
    exact ⟨(ha 3).trans (arr3 m c after (hl 3)), (ha 4).trans (arr4 m c after (hl 4)), (ha 5).trans (arr5 m c after (hl 5)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.InValue

end
-- ==== Proof.InRef.lean ====
/-
  What the input projection's reference computes, over the extended reals: the same formula.
-/
module

public import proofs.«01_k».proof.Proof.InSpec
public import proofs.«01_k».proof.Proof.Gen.InRefIdeal.Run
public import Idealize.ShloMosaic.Lib.StableHlo.ReadAt

@[expose] public section

set_option maxRecDepth 16384

noncomputable section

namespace Cert.InRef

open Idealize.ShloMosaic Idealize.ShloMosaic.TcCoe Idealize.SL.Sem Idealize.ShloMosaic.StableHlo Cert.InRefIdeal Cert.InRefIdeal.Gen Cert.InSpec

variable (x : FVec Ideal S4x2048x2048 .f32) (g : FVec Ideal S2048 .f32) (w : FVec Ideal S2048x11264 .f32)

/-- The product as the reference computes it, batch by batch. -/
def y : FVec Ideal S4x2048x11264 .f32 :=
  Host.dotGeneral dot_S4x2048x2048_S2048x11264_S4x2048x11264_2_0_01_1_n_n none (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) w

theorem y_at (R : Fin 8192) (n : Fin 11264) : y x g w (ix3 ⟨R.val / 2048, by omega⟩ ⟨R.val % 2048, by omega⟩ n) = z x g w R n := by
  unfold y
  pointwise
  rfl

theorem flat_at (R : Fin 8192) (n : Fin 11264) : shapeCast S8192x11264 (y x g w) shapeCasts_S4x2048x11264_S8192x11264 (ix2 R n) = z x g w R n := by
  rw [← y_at x g w R n]
  generalize y x g w = Y
  pointwise

theorem stack_at (o : Nat) (ho : o + 1024 ≤ 11264) (hs : S4x2048x11264.Slices ![0, 0, o] S4x2048x1024) (R : Fin 8192) (s : Fin 8) (l : Fin 128) :
    shapeCast S8192x8x128 (transpose S8192x2x4x128 [0, 2, 1, 3] (shapeCast S8192x4x2x128 (shapeCast S4x2048x4x256 (extractStridedSlice S4x2048x1024 ![0, 0, o] (y x g w) hs)
        shapeCasts_S4x2048x1024_S4x2048x4x256) shapeCasts_S4x2048x4x256_S8192x4x2x128) transposes_S8192x4x2x128_S8192x2x4x128_0_2_1_3) shapeCasts_S8192x2x4x128_S8192x8x128 (ix3 R s l)
      = z x g w R (colOf o ho s l) := by
  rw [← y_at x g w R]
  generalize y x g w = Y
  pointwise
  unfold colOf
  simp only [Nat.add_assoc]

variable (m : (ℓ : Loc nD τ sig) → Buf (Elt Ideal) ℓ) (c : Dev nD)

/-- The reference's arguments: the input, the scales, the weights. -/
abbrev xR : FVec Ideal S4x2048x2048 .f32 := m ((c : Thread nD τ).loc main_arg0)
@[inherit_doc xR] abbrev gR : FVec Ideal S2048 .f32 := m ((c : Thread nD τ).loc main_arg1)
@[inherit_doc xR] abbrev wR : FVec Ideal S2048x11264 .f32 := m ((c : Thread nD τ).loc main_arg2)

/-- The run ends with the formula's values in the three results, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v18) = (fun i => z (xR m c) (gR m c) (wR m c) (i 0) (i 1) : FVec Ideal S8192x11264 .f32)
      ∧ r.2.mem ((c.tc : Thread nD τ).loc main_v21) = (fun i => z (xR m c) (gR m c) (wR m c) (i 0) (colOf 5120 (by decide) (i 1) (i 2)) : FVec Ideal S8192x8x128 .f32)
      ∧ r.2.mem ((c.tc : Thread nD τ).loc main_v24) = (fun i => z (xR m c) (gR m c) (wR m c) (i 0) (colOf 6144 (by decide) (i 1) (i 2)) : FVec Ideal S8192x8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    refine ⟨(h c).1.trans ?_, (h c).2.1.trans ?_, (h c).2.2.1.trans ?_, (h c).2.2.2⟩
    · refine funext fun (j : S8192x11264.Idx) => ?_
      obtain ⟨R, n, rfl⟩ : ∃ (R : Fin 8192) (n : Fin 11264), j = ix2 R n := ⟨j 0, j 1, eq_ix2 j⟩
      exact flat_at (xR m c) (gR m c) (wR m c) R n
    · refine funext fun (j : S8192x8x128.Idx) => ?_
      obtain ⟨R, s, l, rfl⟩ : ∃ (R : Fin 8192) (s : Fin 8) (l : Fin 128), j = ix3 R s l := ⟨j 0, j 1, j 2, eq_ix3 j⟩
      exact stack_at (xR m c) (gR m c) (wR m c) 5120 (by decide) _ R s l
    · refine funext fun (j : S8192x8x128.Idx) => ?_
      obtain ⟨R, s, l, rfl⟩ : ∃ (R : Fin 8192) (s : Fin 8) (l : Fin 128), j = ix3 R s l := ⟨j 0, j 1, j 2, eq_ix3 j⟩
      exact stack_at (xR m c) (gR m c) (wR m c) 6144 (by decide) _ R s l)
    (Value.run m ρ)

end Cert.InRef

end
-- ==== Proof.ProdSpec.lean ====
/-
  The five products that stand alone, as formulas: rows times the weights, two of them with the input added.
-/
module

public import proofs.«01_k».proof.Proof.InSpec
public import proofs.«01_k».proof.PqIdeal
public import proofs.«01_k».proof.XqIdeal
public import proofs.«01_k».proof.OutIdeal
public import proofs.«01_k».proof.XoIdeal
public import proofs.«01_k».proof.MemKvIdeal

@[expose] public section

noncomputable section

namespace Cert.ProdSpec

open Idealize.ShloMosaic Cert.InSpec

/-- The retrieval's queries: the rows normalised and scaled, times the weights. -/
def pq (x : FVec Ideal PqIdeal.S4x2048x2048 .f32) (g : FVec Ideal PqIdeal.S2048 .f32) (w : FVec Ideal PqIdeal.S2048x2048 .f32) : FVec Ideal PqIdeal.S8192x2048 .f32 :=
  fun i => ∑ k, nrm x g (i 0) k * w (ix2 k (i 1))

/-- The cross attention's queries: the rows normalised and scaled, times the weights. -/
def xq (x : FVec Ideal XqIdeal.S4x2048x2048 .f32) (g : FVec Ideal XqIdeal.S2048 .f32) (w : FVec Ideal XqIdeal.S2048x512 .f32) : FVec Ideal XqIdeal.S8192x512 .f32 :=
  fun i => ∑ k, nrm x g (i 0) k * w (ix2 k (i 1))

/-- The output projection: the input, and the mixed rows times the weights. -/
def out (x : FVec Ideal OutIdeal.S4x2048x2048 .f32) (o : FVec Ideal OutIdeal.S8192x2048 .bf16) (w : FVec Ideal OutIdeal.S2048x2048 .f32) : FVec Ideal OutIdeal.S8192x2048 .f32 :=
  fun i => row x (i 0) (i 1) + ∑ k, o (ix2 (i 0) k) * w (ix2 k (i 1))

/-- The cross attention's output projection: the input, and the attention's rows times the weights. -/
def xo (x : FVec Ideal XoIdeal.S4x2048x2048 .f32) (o : FVec Ideal XoIdeal.S8192x512 .bf16) (w : FVec Ideal XoIdeal.S512x2048 .f32) : FVec Ideal XoIdeal.S8192x2048 .f32 :=
  fun i => row x (i 0) (i 1) + ∑ k, o (ix2 (i 0) k) * w (ix2 k (i 1))

/-- Row `R` of the memory, its batches laid one after another. -/
def mrow (x : FVec Ideal MemKvIdeal.S4x256x2048 .f32) (R : Fin 1024) (k : Fin 2048) : Ideal .f32 := x (ix3 ⟨R.val / 256, by omega⟩ ⟨R.val % 256, by omega⟩ k)

/-- The memory's keys and values side by side: its rows times the weights. -/
def mem (x : FVec Ideal MemKvIdeal.S4x256x2048 .f32) (w : FVec Ideal MemKvIdeal.S2048x1024 .f32) : FVec Ideal MemKvIdeal.S1024x1024 .f32 :=
  fun i => ∑ k, mrow x (i 0) k * w (ix2 k (i 1))

end Cert.ProdSpec

end
-- ==== Proof.MemValue.lean ====
/-
  The memory's keys and values, over the extended reals: what the kernel's run ends with.
-/
module

public import proofs.«01_k».proof.Proof.ProdSpec
public import proofs.«01_k».proof.Proof.Gen.MemKvIdeal.Skeleton
public import proofs.«01_k».proof.Proof.Gen.MemKvIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.MemValue

open Idealize.ShloMosaic Idealize.ShloMosaic.TcCoe Idealize.SL.Sem Idealize.ShloMosaic.StableHlo
open Cert.MemKvIdeal Cert.MemKvIdeal.Gen Cert.ProdSpec

variable (m : (ℓ : Loc nD τ sig) → Buf (Elt Ideal) ℓ) (c : Dev nD)

/-- The kernel's arguments: the memory, the weights. -/
abbrev xK : FVec Ideal S4x256x2048 .f32 := m ((c : Thread nD τ).loc main_arg0)
@[inherit_doc xK] abbrev wK : FVec Ideal S2048x1024 .f32 := m ((c : Thread nD τ).loc main_arg1)

/-! ## What a grid point reads -/

theorem in_at (R : Fin 1024) (k : Fin 2048) : (V m c main_v0 : FVec Ideal S1024x2048 .f32) (ix2 R k) = mrow (xK m c) R k := by
  unfold V mrow
  after_reads_at
theorem weight_at (k : Fin 2048) (n : Fin 1024) : (V m c main_v1 : FVec Ideal S2048x1024 .bf16) (ix2 k n) = wK m c (ix2 k n) := by
  unfold V
  after_reads_at

theorem idx0 : ∀ t : Fin cfg0.N, win0_0.index t = ![0, 0] ∧ win0_1.index t = ![0, t.val] ∧ win0_2.index t = ![0, t.val] := by
  decide +kernel

/-- The column that column `n` of point `t`'s block is. -/
abbrev colAt (t : Fin cfg0.N) (n : Fin 512) : Fin 1024 := ⟨t.val * 512 + n.val, by have : t.val < 2 := t.isLt; omega⟩

theorem blk0 (t : Fin cfg0.N) (r : Fin 1024) (k : Fin 2048) : (iblk m c 0 t : FVec Ideal S1024x2048 .f32) (ix2 r k) = mrow (xK m c) r k := by
  rw [← in_at m c]
  blk_ext [iblk, idx0 t]
theorem blk1 (t : Fin cfg0.N) (k : Fin 2048) (n : Fin 512) : (iblk m c 1 t : FVec Ideal S2048x512 .bf16) (ix2 k n) = wK m c (ix2 k (colAt t n)) := by
  rw [← weight_at m c]
  blk_ext [iblk, idx0 t]

/-! ## What a grid point computes -/

theorem pay1_at (x0 : FVec Ideal S1024x2048 .f32) (r : Fin 1024) (k : Fin 2048) : k0_pay1 (F := Ideal) x0 (ix2 r k) = x0 (ix2 r k) := by
  unfold k0_pay1
  pointwise
theorem pay2_at (x0 : FVec Ideal S1024x2048 .bf16) (x1 : FVec Ideal S2048x512 .bf16) (r : Fin 1024) (n : Fin 512) : k0_pay2 (F := Ideal) x0 x1 (ix2 r n)
    = ∑ k, x0 (ix2 r k) * x1 (ix2 k n) := by
  unfold k0_pay2
  pointwise

/-- The rows the first point keeps. -/
theorem rows_at (t : Fin cfg0.N) (r : Fin 1024) (k : Fin 2048) : k0_pay1 (iblk m c 0 t) (ix2 r k) = mrow (xK m c) r k :=
  (pay1_at _ r k).trans (blk0 m c t r k)

/-- A point's block, and the rows kept after it. -/
theorem outs_A (t : Fin cfg0.N) (h : t.val % 2 = 0) : outsAt0 m c t.val t.isLt = (k0_pay2 (k0_pay1 (iblk m c 0 t)) (iblk m c 1 t), k0_pay1 (iblk m c 0 t)) := by
  rw [outsAt0_A m c t h]
  frame_out
theorem outs_B (t : Fin cfg0.N) (h : ¬t.val % 2 = 0) : (outsAt0 m c t.val t.isLt).1 = k0_pay2 (outsAt0 m c (t.val - 1) (Nat.lt_of_le_of_lt (Nat.sub_le _ _) t.isLt)).2 (iblk m c 1 t) := by
  rw [outsAt0_B m c t h]
  frame_out
  simp only [read_unread_whole]

/-- A point's block is the product's at its columns. -/
theorem block_at (t : Fin cfg0.N) (r : Fin 1024) (n : Fin 512) : (outsAt0 m c t.val t.isLt).1 (ix2 r n) = ∑ k, mrow (xK m c) r k * wK m c (ix2 k (colAt t n)) := by
  by_cases h : t.val % 2 = 0
  · rw [outs_A m c t h]
    dsimp only
    rw [pay2_at]
    simp only [rows_at, blk1]
  · have ht : t.val < 2 := t.isLt
    have hs := congrArg Prod.snd (outs_A m c ⟨t.val - 1, by omega⟩ (by show (t.val - 1) % 2 = 0; omega))
    dsimp only at hs
    rw [outs_B m c t h, hs, pay2_at]
    simp only [rows_at, blk1]

/-! ## The array the run ends with -/

theorem arr2 : (dats m 0 c).arrAt 2 cfg0.N = ProdSpec.mem (xK m c) (wK m c) := by
  refine (dats m 0 c).arrAt_eq_of_covers 2 _ (by decide +kernel) fun t hf (y : S1024x512.Idx) => ?_
  obtain ⟨r, n, rfl⟩ : ∃ (r : Fin 1024) (n : Fin 512), y = ix2 r n := ⟨y 0, y 1, eq_ix2 y⟩
  rw [after0_2]
  refine (block_at m c t r n).trans (?_ : _ = ProdSpec.mem (xK m c) (wK m c) ((win0_2.blk t).view.emb (ix2 r n)))
  have e0 : (win0_2.blk t).view.emb (ix2 r n) = ix2 r (colAt t n) := by
    blk_ext [idx0 t]
  rw [e0]
  rfl

/-- The run ends with the projection, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v2) = ProdSpec.mem (xK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.MemValue

end
-- ==== Proof.PqValue.lean ====
/-
  The retrieval's query projection, over the extended reals: what the kernel's run ends with, and the reference's.
-/
module

public import proofs.«01_k».proof.Proof.ProdSpec
public import proofs.«01_k».proof.Proof.Gen.PqIdeal.Skeleton
public import proofs.«01_k».proof.Proof.Gen.PqIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.PqValue

open Idealize.ShloMosaic Idealize.ShloMosaic.TcCoe Idealize.SL.Sem Idealize.ShloMosaic.StableHlo
open Cert.PqIdeal Cert.PqIdeal.Gen Cert.InSpec

variable (m : (ℓ : Loc nD τ sig) → Buf (Elt Ideal) ℓ) (c : Dev nD)

/-- The kernel's arguments: the input, the scales, the weights. -/
abbrev xK : FVec Ideal S4x2048x2048 .f32 := m ((c : Thread nD τ).loc main_arg0)
@[inherit_doc xK] abbrev gK : FVec Ideal S2048 .f32 := m ((c : Thread nD τ).loc main_arg1)
@[inherit_doc xK] abbrev wK : FVec Ideal S2048x2048 .f32 := m ((c : Thread nD τ).loc main_arg2)

/-! ## What a grid point reads -/

theorem in_at (R : Fin 8192) (k : Fin 2048) : (V m c main_v0 : FVec Ideal S8192x2048 .f32) (ix2 R k) = row (xK m c) R k := by
  unfold V row
  after_reads_at
theorem scale_at (k : Fin 2048) : (V m c main_v2 : FVec Ideal S1x2048 .f32) (ix2 0 k) = gK m c (ix1 k) := by
  unfold V
  after_reads_at
theorem weight_at (k n : Fin 2048) : (V m c main_v1 : FVec Ideal S2048x2048 .bf16) (ix2 k n) = wK m c (ix2 k n) := by
  unfold V
  after_reads_at

theorem idx0 : ∀ t : Fin cfg0.N, win0_0.index t = ![t.val / 2, 0] ∧ win0_1.index t = ![0, 0] ∧ win0_2.index t = ![0, t.val % 2] ∧ win0_3.index t = ![t.val / 2, t.val % 2] := by
  decide +kernel

/-- The row of the input that row `r` of point `t`'s block is. -/
abbrev rowAt (t : Fin cfg0.N) (r : Fin 1024) : Fin 8192 := ⟨t.val / 2 * 1024 + r.val, by have : t.val < 16 := t.isLt; omega⟩
/-- The column of the projection that column `n` of point `t`'s block is. -/
abbrev colAt (t : Fin cfg0.N) (n : Fin 1024) : Fin 2048 := ⟨t.val % 2 * 1024 + n.val, by omega⟩

theorem blk0 (t : Fin cfg0.N) (r : Fin 1024) (k : Fin 2048) : (iblk m c 0 t : FVec Ideal S1024x2048 .f32) (ix2 r k) = row (xK m c) (rowAt t r) k := by
  rw [← in_at m c]
  blk_ext [iblk, idx0 t]
theorem blk1 (t : Fin cfg0.N) (k : Fin 2048) : (iblk m c 1 t : FVec Ideal S1x2048 .f32) (ix2 0 k) = gK m c (ix1 k) := by
  rw [← scale_at m c]
  blk_ext [iblk, idx0 t]
theorem blk2 (t : Fin cfg0.N) (k : Fin 2048) (n : Fin 1024) : (iblk m c 2 t : FVec Ideal S2048x1024 .bf16) (ix2 k n) = wK m c (ix2 k (colAt t n)) := by
  rw [← weight_at m c]
  blk_ext [iblk, idx0 t]

/-! ## What a grid point computes -/

theorem pay1_at (x0 : FVec Ideal S1024x2048 .f32) (x1 : FVec Ideal S1x2048 .f32) (r : Fin 1024) (k : Fin 2048) : k0_pay1 (F := Ideal) x0 x1 (ix2 r k)
    = x0 (ix2 r k) * Ideal.rsqrt (Ideal.div (∑ j, x0 (ix2 r j) * x0 (ix2 r j)) (Ideal.ofBits FTy.f32 1157627904#32) + Ideal.ofBits FTy.f32 897988541#32) * x1 (ix2 0 k) := by
  unfold k0_pay1
  pointwise
theorem pay2_at (x0 : FVec Ideal S1024x2048 .bf16) (x1 : FVec Ideal S2048x1024 .bf16) (r : Fin 1024) (n : Fin 1024) : k0_pay2 (F := Ideal) x0 x1 (ix2 r n)
    = ∑ k, x0 (ix2 r k) * x1 (ix2 k n) := by
  unfold k0_pay2
  pointwise

/-- The rows a row block's first point keeps. -/
theorem rows_at (t : Fin cfg0.N) (r : Fin 1024) (k : Fin 2048) : k0_pay1 (iblk m c 0 t) (iblk m c 1 t) (ix2 r k) = nrm (xK m c) (gK m c) (rowAt t r) k := by
  unfold nrm
  rw [pay1_at]
  simp only [blk0, blk1]

/-- A point's block, and the rows kept after it. -/
theorem outs_A (t : Fin cfg0.N) (h : t.val % 2 = 0) : outsAt0 m c t.val t.isLt = (k0_pay2 (k0_pay1 (iblk m c 0 t) (iblk m c 1 t)) (iblk m c 2 t), k0_pay1 (iblk m c 0 t) (iblk m c 1 t)) := by
  rw [outsAt0_A m c t h]
  frame_out
theorem outs_B (t : Fin cfg0.N) (h : ¬t.val % 2 = 0) : (outsAt0 m c t.val t.isLt).1 = k0_pay2 (outsAt0 m c (t.val - 1) (Nat.lt_of_le_of_lt (Nat.sub_le _ _) t.isLt)).2 (iblk m c 2 t) := by
  rw [outsAt0_B m c t h]
  frame_out
  simp only [read_unread_whole]

/-- A point's block is the projection's at its rows and its columns. -/
theorem block_at (t : Fin cfg0.N) (r n : Fin 1024) : (outsAt0 m c t.val t.isLt).1 (ix2 r n) = ∑ k, nrm (xK m c) (gK m c) (rowAt t r) k * wK m c (ix2 k (colAt t n)) := by
  by_cases h : t.val % 2 = 0
  · rw [outs_A m c t h]
    dsimp only
    rw [pay2_at]
    simp only [rows_at, blk2]
  · have ht : t.val < 16 := t.isLt
    have hs := congrArg Prod.snd (outs_A m c ⟨t.val - 1, by omega⟩ (by show (t.val - 1) % 2 = 0; omega))
    dsimp only at hs
    have hr : rowAt ⟨t.val - 1, by omega⟩ r = rowAt t r := Fin.ext (by show (t.val - 1) / 2 * 1024 + r.val = t.val / 2 * 1024 + r.val; omega)
    rw [outs_B m c t h, hs, pay2_at]
    simp only [rows_at, blk2, hr]

/-! ## The array the run ends with -/

theorem arr3 : (dats m 0 c).arrAt 3 cfg0.N = ProdSpec.pq (xK m c) (gK m c) (wK m c) := by
  refine (dats m 0 c).arrAt_eq_of_covers 3 _ (by decide +kernel) fun t hf (y : S1024x1024.Idx) => ?_
  obtain ⟨r, n, rfl⟩ : ∃ (r n : Fin 1024), y = ix2 r n := ⟨y 0, y 1, eq_ix2 y⟩
  rw [after0_3]
  refine (block_at m c t r n).trans (?_ : _ = ProdSpec.pq (xK m c) (gK m c) (wK m c) ((win0_3.blk t).view.emb (ix2 r n)))
  have e0 : (win0_3.blk t).view.emb (ix2 r n) = ix2 (rowAt t r) (colAt t n) := by
    blk_ext [idx0 t]
  rw [e0]
  rfl

/-- The run ends with the projection, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v3) = ProdSpec.pq (xK m c) (gK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2⟩) (Value.run_blocks m ρ)

end Cert.PqValue

end
-- ==== Proof.XqValue.lean ====
/-
  The cross attention's query projection, over the extended reals: what the kernel's run ends with.
-/
module

public import proofs.«01_k».proof.Proof.ProdSpec
public import proofs.«01_k».proof.Proof.Gen.XqIdeal.Skeleton
public import proofs.«01_k».proof.Proof.Gen.XqIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.XqValue

open Idealize.ShloMosaic Idealize.ShloMosaic.TcCoe Idealize.SL.Sem Idealize.ShloMosaic.StableHlo
open Cert.XqIdeal Cert.XqIdeal.Gen Cert.InSpec

variable (m : (ℓ : Loc nD τ sig) → Buf (Elt Ideal) ℓ) (c : Dev nD)

/-- The kernel's arguments: the input, the scales, the weights. -/
abbrev xK : FVec Ideal S4x2048x2048 .f32 := m ((c : Thread nD τ).loc main_arg0)
@[inherit_doc xK] abbrev gK : FVec Ideal S2048 .f32 := m ((c : Thread nD τ).loc main_arg1)
@[inherit_doc xK] abbrev wK : FVec Ideal S2048x512 .f32 := m ((c : Thread nD τ).loc main_arg2)

/-! ## What a grid point reads -/

theorem in_at (R : Fin 8192) (k : Fin 2048) : (V m c main_v0 : FVec Ideal S8192x2048 .f32) (ix2 R k) = row (xK m c) R k := by
  unfold V row
  after_reads_at
theorem scale_at (k : Fin 2048) : (V m c main_v2 : FVec Ideal S1x2048 .f32) (ix2 0 k) = gK m c (ix1 k) := by
  unfold V
  after_reads_at
theorem weight_at (k : Fin 2048) (n : Fin 512) : (V m c main_v1 : FVec Ideal S2048x512 .bf16) (ix2 k n) = wK m c (ix2 k n) := by
  unfold V
  after_reads_at

theorem idx0 : ∀ t : Fin cfg0.N, win0_0.index t = ![t.val, 0] ∧ win0_1.index t = ![0, 0] ∧ win0_2.index t = ![0, 0] ∧ win0_3.index t = ![t.val, 0] := by
  decide +kernel

/-- The row that row `r` of point `t`'s block is. -/
abbrev rowAt (t : Fin cfg0.N) (r : Fin 1024) : Fin 8192 := ⟨t.val * 1024 + r.val, by have : t.val < 8 := t.isLt; omega⟩

theorem blk0 (t : Fin cfg0.N) (r : Fin 1024) (k : Fin 2048) : (iblk m c 0 t : FVec Ideal S1024x2048 .f32) (ix2 r k) = row (xK m c) (rowAt t r) k := by
  rw [← in_at m c]
  blk_ext [iblk, idx0 t]
theorem blk1 (t : Fin cfg0.N) (k : Fin 2048) : (iblk m c 1 t : FVec Ideal S1x2048 .f32) (ix2 0 k) = gK m c (ix1 k) := by
  rw [← scale_at m c]
  blk_ext [iblk, idx0 t]
theorem blk2 (t : Fin cfg0.N) (k : Fin 2048) (n : Fin 512) : (iblk m c 2 t : FVec Ideal S2048x512 .bf16) (ix2 k n) = wK m c (ix2 k n) := by
  rw [← weight_at m c]
  blk_ext [iblk, idx0 t]

/-! ## What a grid point computes -/

theorem pay1_at (x0 : FVec Ideal S1024x2048 .f32) (x1 : FVec Ideal S1x2048 .f32) (r : Fin 1024) (k : Fin 2048) : k0_pay1 (F := Ideal) x0 x1 (ix2 r k)
    = x0 (ix2 r k) * Ideal.rsqrt (Ideal.div (∑ j, x0 (ix2 r j) * x0 (ix2 r j)) (Ideal.ofBits FTy.f32 1157627904#32) + Ideal.ofBits FTy.f32 897988541#32) * x1 (ix2 0 k) := by
  unfold k0_pay1
  pointwise
theorem pay2_at (x0 : FVec Ideal S1024x2048 .bf16) (x1 : FVec Ideal S2048x512 .bf16) (r : Fin 1024) (n : Fin 512) : k0_pay2 (F := Ideal) x0 x1 (ix2 r n)
    = ∑ k, x0 (ix2 r k) * x1 (ix2 k n) := by
  unfold k0_pay2
  pointwise

theorem rows_at (t : Fin cfg0.N) (r : Fin 1024) (k : Fin 2048) : k0_pay1 (iblk m c 0 t) (iblk m c 1 t) (ix2 r k) = nrm (xK m c) (gK m c) (rowAt t r) k := by
  unfold nrm
  rw [pay1_at]
  simp only [blk0, blk1]

theorem outs (t : Fin cfg0.N) : outsAt0 m c t = k0_pay2 (k0_pay1 (iblk m c 0 t) (iblk m c 1 t)) (iblk m c 2 t) := by
  unfold outsAt0
  frame_out

/-- A point's block is the projection's at its rows. -/
theorem block_at (t : Fin cfg0.N) (r : Fin 1024) (n : Fin 512) : outsAt0 m c t (ix2 r n) = ∑ k, nrm (xK m c) (gK m c) (rowAt t r) k * wK m c (ix2 k n) := by
  rw [outs, pay2_at]
  simp only [rows_at, blk2]

/-! ## The array the run ends with -/

theorem arr3 : (dats m 0 c).arrAt 3 cfg0.N = ProdSpec.xq (xK m c) (gK m c) (wK m c) := by
  refine (dats m 0 c).arrAt_eq_of_covers 3 _ (by decide +kernel) fun t hf (y : S1024x512.Idx) => ?_
  obtain ⟨r, n, rfl⟩ : ∃ (r : Fin 1024) (n : Fin 512), y = ix2 r n := ⟨y 0, y 1, eq_ix2 y⟩
  refine ((congrFun (after0_3 m c t) (ix2 r n)).trans (block_at m c t r n)).trans (?_ : _ = ProdSpec.xq (xK m c) (gK m c) (wK m c) ((win0_3.blk t).view.emb (ix2 r n)))
  have e0 : (win0_3.blk t).view.emb (ix2 r n) = ix2 (rowAt t r) n := by
    blk_ext [idx0 t]
  rw [e0]
  rfl

/-- The run ends with the projection, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v3) = ProdSpec.xq (xK m c) (gK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2⟩) (Value.run_blocks m ρ)

end Cert.XqValue

end
-- ==== Proof.OutValue.lean ====
/-
  The output projection, over the extended reals: what the kernel's run ends with.
-/
module

public import proofs.«01_k».proof.Proof.ProdSpec
public import proofs.«01_k».proof.Proof.Gen.OutIdeal.Skeleton
public import proofs.«01_k».proof.Proof.Gen.OutIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.OutValue

open Idealize.ShloMosaic Idealize.ShloMosaic.TcCoe Idealize.SL.Sem Idealize.ShloMosaic.StableHlo
open Cert.OutIdeal Cert.OutIdeal.Gen Cert.InSpec

variable (m : (ℓ : Loc nD τ sig) → Buf (Elt Ideal) ℓ) (c : Dev nD)

/-- The kernel's arguments: the input, the mixed rows, the weights. -/
abbrev xK : FVec Ideal S4x2048x2048 .f32 := m ((c : Thread nD τ).loc main_arg0)
@[inherit_doc xK] abbrev oK : FVec Ideal S8192x2048 .bf16 := m ((c : Thread nD τ).loc main_arg1)
@[inherit_doc xK] abbrev wK : FVec Ideal S2048x2048 .f32 := m ((c : Thread nD τ).loc main_arg2)

/-! ## What a grid point reads -/

theorem mixed_at (R : Fin 8192) (k : Fin 2048) : (V m c main_arg1 : FVec Ideal S8192x2048 .bf16) (ix2 R k) = oK m c (ix2 R k) :=
  congrFun (V_main_arg1 m c) _
theorem weight_at (k n : Fin 2048) : (V m c main_v0 : FVec Ideal S2048x2048 .bf16) (ix2 k n) = wK m c (ix2 k n) := by
  unfold V
  after_reads_at
theorem in_at (R : Fin 8192) (k : Fin 2048) : (V m c main_v1 : FVec Ideal S8192x2048 .f32) (ix2 R k) = row (xK m c) R k := by
  unfold V row
  after_reads_at

theorem idx0 : ∀ t : Fin cfg0.N, win0_0.index t = ![t.val / 2, 0] ∧ win0_1.index t = ![0, t.val % 2] ∧ win0_2.index t = ![t.val / 2, t.val % 2] ∧ win0_3.index t = ![t.val / 2, t.val % 2] := by
  decide +kernel

/-- The row that row `r` of point `t`'s block is. -/
abbrev rowAt (t : Fin cfg0.N) (r : Fin 1024) : Fin 8192 := ⟨t.val / 2 * 1024 + r.val, by have : t.val < 16 := t.isLt; omega⟩
/-- The column that column `n` of point `t`'s block is. -/
abbrev colAt (t : Fin cfg0.N) (n : Fin 1024) : Fin 2048 := ⟨t.val % 2 * 1024 + n.val, by omega⟩

theorem blk0 (t : Fin cfg0.N) (r : Fin 1024) (k : Fin 2048) : (iblk m c 0 t : FVec Ideal S1024x2048 .bf16) (ix2 r k) = oK m c (ix2 (rowAt t r) k) := by
  rw [← mixed_at m c]
  blk_ext [iblk, idx0 t]
theorem blk1 (t : Fin cfg0.N) (k : Fin 2048) (n : Fin 1024) : (iblk m c 1 t : FVec Ideal S2048x1024 .bf16) (ix2 k n) = wK m c (ix2 k (colAt t n)) := by
  rw [← weight_at m c]
  blk_ext [iblk, idx0 t]
theorem blk2 (t : Fin cfg0.N) (r n : Fin 1024) : (iblk m c 2 t : FVec Ideal S1024x1024 .f32) (ix2 r n) = row (xK m c) (rowAt t r) (colAt t n) := by
  rw [← in_at m c]
  blk_ext [iblk, idx0 t]

/-! ## What a grid point computes -/

theorem pay1_at (x0 : FVec Ideal S1024x2048 .bf16) (r : Fin 1024) (k : Fin 2048) : k0_pay1 (F := Ideal) x0 (ix2 r k) = x0 (ix2 r k) := by
  unfold k0_pay1
  pointwise
theorem pay2_at (x0 : FVec Ideal S1024x2048 .bf16) (x1 : FVec Ideal S2048x1024 .bf16) (x2 : FVec Ideal S1024x1024 .f32) (r n : Fin 1024) : k0_pay2 (F := Ideal) x0 x1 x2 (ix2 r n)
    = x2 (ix2 r n) + ∑ k, x0 (ix2 r k) * x1 (ix2 k n) := by
  unfold k0_pay2
  pointwise

/-- The rows a row block's first point keeps. -/
theorem rows_at (t : Fin cfg0.N) (r : Fin 1024) (k : Fin 2048) : k0_pay1 (iblk m c 0 t) (ix2 r k) = oK m c (ix2 (rowAt t r) k) :=
  (pay1_at _ r k).trans (blk0 m c t r k)

/-- A point's block, and the rows kept after it. -/
theorem outs_A (t : Fin cfg0.N) (h : t.val % 2 = 0) : outsAt0 m c t.val t.isLt = (k0_pay2 (k0_pay1 (iblk m c 0 t)) (iblk m c 1 t) (iblk m c 2 t), k0_pay1 (iblk m c 0 t)) := by
  rw [outsAt0_A m c t h]
  frame_out
theorem outs_B (t : Fin cfg0.N) (h : ¬t.val % 2 = 0) : (outsAt0 m c t.val t.isLt).1 = k0_pay2 (outsAt0 m c (t.val - 1) (Nat.lt_of_le_of_lt (Nat.sub_le _ _) t.isLt)).2 (iblk m c 1 t) (iblk m c 2 t) := by
  rw [outsAt0_B m c t h]
  frame_out
  simp only [read_unread_whole]

/-- A point's block is the projection's at its rows and its columns. -/
theorem block_at (t : Fin cfg0.N) (r n : Fin 1024) : (outsAt0 m c t.val t.isLt).1 (ix2 r n)
    = row (xK m c) (rowAt t r) (colAt t n) + ∑ k, oK m c (ix2 (rowAt t r) k) * wK m c (ix2 k (colAt t n)) := by
  by_cases h : t.val % 2 = 0
  · rw [outs_A m c t h]
    dsimp only
    rw [pay2_at]
    simp only [rows_at, blk1, blk2]
  · have ht : t.val < 16 := t.isLt
    have hs := congrArg Prod.snd (outs_A m c ⟨t.val - 1, by omega⟩ (by show (t.val - 1) % 2 = 0; omega))
    dsimp only at hs
    have hr : rowAt ⟨t.val - 1, by omega⟩ r = rowAt t r := Fin.ext (by show (t.val - 1) / 2 * 1024 + r.val = t.val / 2 * 1024 + r.val; omega)
    rw [outs_B m c t h, hs, pay2_at]
    simp only [rows_at, blk1, blk2, hr]

/-! ## The array the run ends with -/

theorem arr3 : (dats m 0 c).arrAt 3 cfg0.N = ProdSpec.out (xK m c) (oK m c) (wK m c) := by
  refine (dats m 0 c).arrAt_eq_of_covers 3 _ (by decide +kernel) fun t hf (y : S1024x1024.Idx) => ?_
  obtain ⟨r, n, rfl⟩ : ∃ (r n : Fin 1024), y = ix2 r n := ⟨y 0, y 1, eq_ix2 y⟩
  rw [after0_3]
  refine (block_at m c t r n).trans (?_ : _ = ProdSpec.out (xK m c) (oK m c) (wK m c) ((win0_3.blk t).view.emb (ix2 r n)))
  have e0 : (win0_3.blk t).view.emb (ix2 r n) = ix2 (rowAt t r) (colAt t n) := by
    blk_ext [idx0 t]
  rw [e0]
  rfl

/-- The run ends with the projection, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v2) = ProdSpec.out (xK m c) (oK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2⟩) (Value.run_blocks m ρ)

end Cert.OutValue

end
-- ==== Proof.XoValue.lean ====
/-
  The cross attention's output projection, over the extended reals: what the kernel's run ends with.
-/
module

public import proofs.«01_k».proof.Proof.ProdSpec
public import proofs.«01_k».proof.Proof.Gen.XoIdeal.Skeleton
public import proofs.«01_k».proof.Proof.Gen.XoIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.XoValue

open Idealize.ShloMosaic Idealize.ShloMosaic.TcCoe Idealize.SL.Sem Idealize.ShloMosaic.StableHlo
open Cert.XoIdeal Cert.XoIdeal.Gen Cert.InSpec

variable (m : (ℓ : Loc nD τ sig) → Buf (Elt Ideal) ℓ) (c : Dev nD)

/-- The kernel's arguments: the input, the attention's rows, the weights. -/
abbrev xK : FVec Ideal S4x2048x2048 .f32 := m ((c : Thread nD τ).loc main_arg0)
@[inherit_doc xK] abbrev oK : FVec Ideal S8192x512 .bf16 := m ((c : Thread nD τ).loc main_arg1)
@[inherit_doc xK] abbrev wK : FVec Ideal S512x2048 .f32 := m ((c : Thread nD τ).loc main_arg2)

/-! ## What a grid point reads -/

theorem attn_at (R : Fin 8192) (k : Fin 512) : (V m c main_arg1 : FVec Ideal S8192x512 .bf16) (ix2 R k) = oK m c (ix2 R k) :=
  congrFun (V_main_arg1 m c) _
theorem weight_at (k : Fin 512) (n : Fin 2048) : (V m c main_v0 : FVec Ideal S512x2048 .bf16) (ix2 k n) = wK m c (ix2 k n) := by
  unfold V
  after_reads_at
theorem in_at (R : Fin 8192) (k : Fin 2048) : (V m c main_v1 : FVec Ideal S8192x2048 .f32) (ix2 R k) = row (xK m c) R k := by
  unfold V row
  after_reads_at

theorem idx0 : ∀ t : Fin cfg0.N, win0_0.index t = ![t.val, 0] ∧ win0_1.index t = ![0, 0] ∧ win0_2.index t = ![t.val, 0] ∧ win0_3.index t = ![t.val, 0] := by
  decide +kernel

/-- The row that row `r` of point `t`'s block is. -/
abbrev rowAt (t : Fin cfg0.N) (r : Fin 1024) : Fin 8192 := ⟨t.val * 1024 + r.val, by have : t.val < 8 := t.isLt; omega⟩

theorem blk0 (t : Fin cfg0.N) (r : Fin 1024) (k : Fin 512) : (iblk m c 0 t : FVec Ideal S1024x512 .bf16) (ix2 r k) = oK m c (ix2 (rowAt t r) k) := by
  rw [← attn_at m c]
  blk_ext [iblk, idx0 t]
theorem blk1 (t : Fin cfg0.N) (k : Fin 512) (n : Fin 2048) : (iblk m c 1 t : FVec Ideal S512x2048 .bf16) (ix2 k n) = wK m c (ix2 k n) := by
  rw [← weight_at m c]
  blk_ext [iblk, idx0 t]
theorem blk2 (t : Fin cfg0.N) (r : Fin 1024) (n : Fin 2048) : (iblk m c 2 t : FVec Ideal S1024x2048 .f32) (ix2 r n) = row (xK m c) (rowAt t r) n := by
  rw [← in_at m c]
  blk_ext [iblk, idx0 t]

/-! ## What a grid point computes -/

theorem pay1_at (x0 : FVec Ideal S1024x512 .bf16) (r : Fin 1024) (k : Fin 512) : k0_pay1 (F := Ideal) x0 (ix2 r k) = x0 (ix2 r k) := by
  unfold k0_pay1
  pointwise
theorem pay2_at (x0 : FVec Ideal S1024x512 .bf16) (x1 : FVec Ideal S512x2048 .bf16) (x2 : FVec Ideal S1024x2048 .f32) (r : Fin 1024) (n : Fin 2048) : k0_pay2 (F := Ideal) x0 x1 x2 (ix2 r n)
    = x2 (ix2 r n) + ∑ k, x0 (ix2 r k) * x1 (ix2 k n) := by
  unfold k0_pay2
  pointwise

theorem rows_at (t : Fin cfg0.N) (r : Fin 1024) (k : Fin 512) : k0_pay1 (iblk m c 0 t) (ix2 r k) = oK m c (ix2 (rowAt t r) k) :=
  (pay1_at _ r k).trans (blk0 m c t r k)

theorem outs (t : Fin cfg0.N) : outsAt0 m c t = k0_pay2 (k0_pay1 (iblk m c 0 t)) (iblk m c 1 t) (iblk m c 2 t) := by
  unfold outsAt0
  frame_out

/-- A point's block is the projection's at its rows. -/
theorem block_at (t : Fin cfg0.N) (r : Fin 1024) (n : Fin 2048) : outsAt0 m c t (ix2 r n)
    = row (xK m c) (rowAt t r) n + ∑ k, oK m c (ix2 (rowAt t r) k) * wK m c (ix2 k n) := by
  rw [outs, pay2_at]
  simp only [rows_at, blk1, blk2]

/-! ## The array the run ends with -/

theorem arr3 : (dats m 0 c).arrAt 3 cfg0.N = ProdSpec.xo (xK m c) (oK m c) (wK m c) := by
  refine (dats m 0 c).arrAt_eq_of_covers 3 _ (by decide +kernel) fun t hf (y : S1024x2048.Idx) => ?_
  obtain ⟨r, n, rfl⟩ : ∃ (r : Fin 1024) (n : Fin 2048), y = ix2 r n := ⟨y 0, y 1, eq_ix2 y⟩
  refine ((congrFun (after0_3 m c t) (ix2 r n)).trans (block_at m c t r n)).trans (?_ : _ = ProdSpec.xo (xK m c) (oK m c) (wK m c) ((win0_3.blk t).view.emb (ix2 r n)))
  have e0 : (win0_3.blk t).view.emb (ix2 r n) = ix2 (rowAt t r) n := by
    blk_ext [idx0 t]
  rw [e0]
  rfl

/-- The run ends with the projection, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v2) = ProdSpec.xo (xK m c) (oK m c) (wK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2⟩) (Value.run_blocks m ρ)

end Cert.XoValue

end
-- ==== Proof.ProdRef.lean ====
/-
  What the references of the five products compute, over the extended reals: the same formulas.
-/
module

public import proofs.«01_k».proof.Proof.ProdSpec
public import proofs.«01_k».proof.Proof.Gen.PqRefIdeal.Run
public import proofs.«01_k».proof.Proof.Gen.XqRefIdeal.Run
public import proofs.«01_k».proof.Proof.Gen.OutRefIdeal.Run
public import proofs.«01_k».proof.Proof.Gen.XoRefIdeal.Run
public import proofs.«01_k».proof.Proof.Gen.MemKvRefIdeal.Run
public import Idealize.ShloMosaic.Lib.StableHlo.ReadAt

@[expose] public section

set_option maxRecDepth 16384

noncomputable section

namespace Cert.ProdRef

open Idealize.ShloMosaic Idealize.ShloMosaic.TcCoe Idealize.SL.Sem Idealize.ShloMosaic.StableHlo Cert.InSpec

section
open Cert.PqRefIdeal Cert.PqRefIdeal.Gen

theorem pq (x : FVec Ideal S4x2048x2048 .f32) (g : FVec Ideal S2048 .f32) (w : FVec Ideal S2048x2048 .f32) :
    (Host.dotGeneral dot_S8192x2048_S2048x2048_S8192x2048_1_0_0_1_n_n none (shapeCast S8192x2048 (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048) w : FVec Ideal S8192x2048 .f32)
      = ProdSpec.pq x g w := by
  refine funext fun (j : S8192x2048.Idx) => ?_
  obtain ⟨R, n, rfl⟩ : ∃ (R : Fin 8192) (n : Fin 2048), j = ix2 R n := ⟨j 0, j 1, eq_ix2 j⟩
  pointwise
  rfl

end

section
open Cert.XqRefIdeal Cert.XqRefIdeal.Gen

theorem xq (x : FVec Ideal S4x2048x2048 .f32) (g : FVec Ideal S2048 .f32) (w : FVec Ideal S2048x512 .f32) :
    (shapeCast S8192x512 (Host.dotGeneral dot_S4x2048x2048_S2048x512_S4x2048x512_2_0_01_1_n_n none (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) w) shapeCasts_S4x2048x512_S8192x512 : FVec Ideal S8192x512 .f32)
      = ProdSpec.xq x g w := by
  refine funext fun (j : S8192x512.Idx) => ?_
  obtain ⟨R, n, rfl⟩ : ∃ (R : Fin 8192) (n : Fin 512), j = ix2 R n := ⟨j 0, j 1, eq_ix2 j⟩
  pointwise
  rfl

end

section
open Cert.OutRefIdeal Cert.OutRefIdeal.Gen

theorem out (x : FVec Ideal S4x2048x2048 .f32) (o : FVec Ideal S8192x2048 .bf16) (w : FVec Ideal S2048x2048 .f32) :
    (shapeCast S8192x2048 (addf x (Host.dotGeneral dot_S4x2048x2048_S2048x2048_S4x2048x2048_2_0_01_1_n_n none (extf .f32 (shapeCast _ o shapeCasts_S8192x2048_S4x2048x2048) bitsLt_bf16_f32) w)) shapeCasts_S4x2048x2048_S8192x2048 : FVec Ideal S8192x2048 .f32)
      = ProdSpec.out x o w := by
  refine funext fun (j : S8192x2048.Idx) => ?_
  obtain ⟨R, n, rfl⟩ : ∃ (R : Fin 8192) (n : Fin 2048), j = ix2 R n := ⟨j 0, j 1, eq_ix2 j⟩
  pointwise
  rfl

end

section
open Cert.XoRefIdeal Cert.XoRefIdeal.Gen

theorem xo (x : FVec Ideal S4x2048x2048 .f32) (o : FVec Ideal S8192x512 .bf16) (w : FVec Ideal S512x2048 .f32) :
    (shapeCast S8192x2048 (addf x (Host.dotGeneral dot_S4x2048x512_S512x2048_S4x2048x2048_2_0_01_1_n_n none (extf .f32 (shapeCast _ o shapeCasts_S8192x512_S4x2048x512) bitsLt_bf16_f32) w)) shapeCasts_S4x2048x2048_S8192x2048 : FVec Ideal S8192x2048 .f32)
      = ProdSpec.xo x o w := by
  refine funext fun (j : S8192x2048.Idx) => ?_
  obtain ⟨R, n, rfl⟩ : ∃ (R : Fin 8192) (n : Fin 2048), j = ix2 R n := ⟨j 0, j 1, eq_ix2 j⟩
  pointwise
  rfl

end

section
open Cert.MemKvRefIdeal Cert.MemKvRefIdeal.Gen

/-- The keys and the values taken out of the product and laid side by side again are the product. -/
theorem mem_halves (Y : FVec Ideal S4x256x1024 .f32) (R : Fin 1024) (n : Fin 1024) :
    (shapeCast S1024x1024 (concatenate S4x256x2x4x128 2 [⟨S4x256x1x4x128, (broadcastInDim S4x256x1x4x128 ![0, 1, 3, 4] bcast_S4x256x4x128_S4x256x1x4x128_0_1_3_4 (shapeCast S4x256x4x128 (extractStridedSlice S4x256x1x4x128 ![0, 0, 0, 0, 0] (shapeCast S4x256x2x4x128 Y shapeCasts_S4x256x1024_S4x256x2x4x128) slices_S4x256x2x4x128_S4x256x1x4x128_0_0_0_0_0) shapeCasts_S4x256x1x4x128_S4x256x4x128))⟩, ⟨S4x256x1x4x128, (broadcastInDim S4x256x1x4x128 ![0, 1, 3, 4] bcast_S4x256x4x128_S4x256x1x4x128_0_1_3_4 (shapeCast S4x256x4x128 (extractStridedSlice S4x256x1x4x128 ![0, 0, 1, 0, 0] (shapeCast S4x256x2x4x128 Y shapeCasts_S4x256x1024_S4x256x2x4x128) slices_S4x256x2x4x128_S4x256x1x4x128_0_0_1_0_0) shapeCasts_S4x256x1x4x128_S4x256x4x128))⟩] concatenates_S4x256x1x4x128_S4x256x1x4x128_S4x256x2x4x128_d2) shapeCasts_S4x256x2x4x128_S1024x1024 : FVec Ideal S1024x1024 .f32) (ix2 R n)
      = Y (ix3 ⟨R.val / 256, by omega⟩ ⟨R.val % 256, by omega⟩ n) := by
  pointwise
  split
  · exact congrArg (fun k => Y (ix3 _ _ k)) (Fin.ext (by show n.val / 128 % 4 * 128 + n.val % 128 = n.val; omega))
  · exact congrArg (fun k => Y (ix3 _ _ k)) (Fin.ext (by show 512 + n.val / 128 % 4 * 128 + n.val % 128 = n.val; omega))

theorem mem (x : FVec Ideal S4x256x2048 .f32) (w : FVec Ideal S2048x1024 .f32) :
    (shapeCast S1024x1024 (concatenate S4x256x2x4x128 2 [⟨S4x256x1x4x128, (broadcastInDim S4x256x1x4x128 ![0, 1, 3, 4] bcast_S4x256x4x128_S4x256x1x4x128_0_1_3_4 (shapeCast S4x256x4x128 (extractStridedSlice S4x256x1x4x128 ![0, 0, 0, 0, 0] (shapeCast S4x256x2x4x128 (Host.dotGeneral dot_S4x256x2048_S2048x1024_S4x256x1024_2_0_01_1_n_n none x w) shapeCasts_S4x256x1024_S4x256x2x4x128) slices_S4x256x2x4x128_S4x256x1x4x128_0_0_0_0_0) shapeCasts_S4x256x1x4x128_S4x256x4x128))⟩, ⟨S4x256x1x4x128, (broadcastInDim S4x256x1x4x128 ![0, 1, 3, 4] bcast_S4x256x4x128_S4x256x1x4x128_0_1_3_4 (shapeCast S4x256x4x128 (extractStridedSlice S4x256x1x4x128 ![0, 0, 1, 0, 0] (shapeCast S4x256x2x4x128 (Host.dotGeneral dot_S4x256x2048_S2048x1024_S4x256x1024_2_0_01_1_n_n none x w) shapeCasts_S4x256x1024_S4x256x2x4x128) slices_S4x256x2x4x128_S4x256x1x4x128_0_0_1_0_0) shapeCasts_S4x256x1x4x128_S4x256x4x128))⟩] concatenates_S4x256x1x4x128_S4x256x1x4x128_S4x256x2x4x128_d2) shapeCasts_S4x256x2x4x128_S1024x1024 : FVec Ideal S1024x1024 .f32)
      = ProdSpec.mem x w := by
  refine funext fun (j : S1024x1024.Idx) => ?_
  obtain ⟨R, n, rfl⟩ : ∃ (R : Fin 1024) (n : Fin 1024), j = ix2 R n := ⟨j 0, j 1, eq_ix2 j⟩
  refine (mem_halves _ R n).trans ?_
  pointwise
  rfl

end

end Cert.ProdRef

end
-- ==== Proof.XattnSpec.lean ====
/-
  The cross attention as a formula: every head's softmax of the scaled scores against the memory, times the memory's values.
-/
module

public import proofs.«01_k».proof.Proof.InSpec
public import proofs.«01_k».proof.XattnIdeal

@[expose] public section

noncomputable section

namespace Cert.XattnSpec

open Idealize.ShloMosaic Cert.XattnIdeal

/-- The literal the maximum starts from. -/
abbrev low : EReal := (FloatOps.ofBits .f32 0xFF800000#32 : Ideal .f32)

/-- A query's score against a key, scaled. -/
def score (q k : Fin 128 → EReal) : EReal := (∑ d, q d * k d) * (FloatOps.ofBits .f32 0x3DB504F3#32 : Ideal .f32)

/-- The softmax of the scores, at `j`. -/
def soft (s : Fin 256 → EReal) (j : Fin 256) : EReal :=
  Ideal.div (Ideal.exp (s j - Finset.fold max low s Finset.univ)) (∑ j, Ideal.exp (s j - Finset.fold max low s Finset.univ))

/-- The attention's rows. -/
def att (q : FVec Ideal S4x2048x512 .f32) (k v : FVec Ideal S4x256x4x128 .f32) : FVec Ideal S4x2048x512 .bf16 :=
  fun (i : S4x2048x512.Idx) => ∑ j, soft (fun j => score (fun d => q (ix3 (i 0) (i 1) ⟨(i 2).val / 128 * 128 + d.val, by have h : (i 2).val < 512 := (i 2).isLt; show (i 2).val / 128 * 128 + d.val < 512; omega⟩))
      (fun d => k (ix4 (i 0) j ⟨(i 2).val / 128, by have h : (i 2).val < 512 := (i 2).isLt; show (i 2).val / 128 < 4; omega⟩ d))) j
    * v (ix4 (i 0) j ⟨(i 2).val / 128, by have h : (i 2).val < 512 := (i 2).isLt; show (i 2).val / 128 < 4; omega⟩ ⟨(i 2).val % 128, Nat.mod_lt _ (by decide)⟩)

end Cert.XattnSpec

end
-- ==== Proof.XattnValue.lean ====
/-
  The cross attention, over the extended reals: what the kernel's run ends with.
-/
module

public import proofs.«01_k».proof.Proof.XattnSpec
public import proofs.«01_k».proof.Proof.Gen.XattnIdeal.Skeleton
public import proofs.«01_k».proof.Proof.Gen.XattnIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.XattnValue

open Idealize.ShloMosaic Idealize.ShloMosaic.TcCoe Idealize.SL.Sem Idealize.ShloMosaic.StableHlo
open Cert.XattnIdeal Cert.XattnIdeal.Gen Cert.XattnSpec

theorem z3 : (![0, 0, 0] : Fin 3 → Nat) = fun _ => 0 := funext fun a => by fin_cases a <;> rfl

/-! ## One head of a block -/

/-- The place of a head's columns in the queries and in the memory. -/
theorem slq (h : Fin 4) : S512x512.Slices ![0, 128 * h.val] S512x128 := ⟨rfl, fun a => by fin_cases a <;> dsimp <;> omega⟩
@[inherit_doc slq] theorem slk (h : Fin 4) : S256x512.Slices ![0, 128 * h.val] S256x128 := ⟨rfl, fun a => by fin_cases a <;> dsimp <;> omega⟩
/-- The place of a head's columns in the result. -/
theorem inH (h : Fin 4) : ∀ a, (![0, 0, 128 * h.val] : Fin 3 → Nat) a + (![1, 512, 128] : Fin 3 → Nat) a ≤ S1x512x512.size a :=
  fun a => by fin_cases a <;> simp [Shape.size] <;> omega

/-- A head's scaled scores: the kernel's operations. -/
def scV (q : FVec Ideal S1x512x512 .f32) (k : FVec Ideal S1x256x512 .f32) (h : Fin 4) : FVec Ideal S512x256 .f32 :=
  mulf (matmul dot_S512x128_S256x128_S512x256_1_1_0_0_n_n none (truncf .bf16 (extractStridedSlice S512x128 ![0, 128 * h.val] (k0_pay2 q) (slq h)) bitsLt_bf16_f32)
    (truncf .bf16 (extractStridedSlice S256x128 ![0, 128 * h.val] (k0_pay3 k) (slk h)) bitsLt_bf16_f32) (constant S512x256 .f32 0x00000000#32)) (broadcast S512x256 (Scalar.ofBits .f32 0x3DB504F3#32))

/-- A head's result from its scores: the kernel's operations. -/
def atV (s : FVec Ideal S512x256 .f32) (v : FVec Ideal S1x256x512 .f32) (h : Fin 4) : FVec Ideal S1x512x128 .bf16 :=
  have m : FVec Ideal S512x1 .f32 := shapeCast S512x1 (multiReduction .maximumf [1] S512 s 0xFF800000#32 reduces_S512x256_S512 (.inl rfl) rfl) shapeCasts_S512_S512x1
  have e : FVec Ideal S512x256 .f32 := exp (subf s (broadcastTo S512x256 m broadcasts_S512x1_S512x256))
  have n : FVec Ideal S512x1 .f32 := shapeCast S512x1 (multiReduction .add [1] S512 e 0x00000000#32 reduces_S512x256_S512 (.inl rfl) rfl) shapeCasts_S512_S512x1
  shapeCast S1x512x128 (truncf .bf16 (matmul dot_S512x256_S256x128_S512x128_1_0_0_1_n_n none (truncf .bf16 (divf e (broadcastTo S512x256 n broadcasts_S512x1_S512x256)) bitsLt_bf16_f32)
    (truncf .bf16 (extractStridedSlice S256x128 ![0, 128 * h.val] (k0_pay4 v) (slk h)) bitsLt_bf16_f32) (constant S512x128 .f32 0x00000000#32)) bitsLt_bf16_f32) shapeCasts_S512x128_S1x512x128

theorem scV_at (q : FVec Ideal S1x512x512 .f32) (k : FVec Ideal S1x256x512 .f32) (h : Fin 4) (r : Fin 512) (j : Fin 256) : scV q k h (ix2 r j)
    = score (fun d => q (ix3 0 r ⟨128 * h.val + d.val, by omega⟩)) (fun d => k (ix3 0 j ⟨128 * h.val + d.val, by omega⟩)) := by
  unfold scV k0_pay2 k0_pay3 score
  pointwise
theorem atV_at (s : FVec Ideal S512x256 .f32) (v : FVec Ideal S1x256x512 .f32) (h : Fin 4) (r : Fin 512) (n : Fin 128) : atV s v h (ix3 0 r n)
    = ∑ j, soft (fun j => s (ix2 r j)) j * v (ix3 0 j ⟨128 * h.val + n.val, by omega⟩) := by
  unfold atV k0_pay4 soft
  pointwise

/-! ## A block -/

/-- The block's result, all its heads side by side. -/
def attF (q : FVec Ideal S1x512x512 .f32) (k v : FVec Ideal S1x256x512 .f32) (r n : Fin 512) : EReal :=
  ∑ j, soft (fun j => score (fun d => q (ix3 0 r ⟨n.val / 128 * 128 + d.val, by omega⟩)) (fun d => k (ix3 0 j ⟨n.val / 128 * 128 + d.val, by omega⟩))) j * v (ix3 0 j n)

/-- A head's stored columns are its part of the whole. -/
theorem piece (q : FVec Ideal S1x512x512 .f32) (k v : FVec Ideal S1x256x512 .f32) (h : Fin 4)
    (p : FVec Ideal S1x512x128 .bf16) (hp : p = atV (scV q k h) v h) (x : S1x512x128.Idx) :
    p x = (fun y : S1x512x512.Idx => attF q k v (y 1) (y 2)) ((Rect.unit (s := S1x512x512) ![0, 0, 128 * h.val] ![1, 512, 128] (inH h)).emb x) := by
  subst hp
  obtain ⟨i, j, rfl⟩ : ∃ (i : Fin 512) (j : Fin 128), x = ix3 0 i j := ⟨x 1, x 2, by idx_ext⟩
  rw [atV_at]
  simp only [scV_at]
  have e : (Rect.unit (s := S1x512x512) ![0, 0, 128 * h.val] ![1, 512, 128] (inH h)).emb (ix3 0 i j) = ix3 0 i ⟨128 * h.val + j.val, by omega⟩ := by idx_ext
  rw [e]
  have h1 : (128 * h.val + j.val) / 128 * 128 = 128 * h.val := by omega
  show _ = attF q k v i ⟨128 * h.val + j.val, by omega⟩
  unfold attF
  simp only [h1]

theorem out_at (x0 : FVec Ideal S1x512x512 .f32) (x1 x2 : FVec Ideal S1x256x512 .f32) (r n : Fin 512) : out0_3 (F := Ideal) x0 x1 x2 (ix3 0 r n) = attF x0 x1 x2 r n := by
  unfold out0_3 k0_pay13 k0_pay12 k0_pay11
  simp only [View.ld_unit_zero (S := S1x512x512) z3, View.ld_unit_zero (S := S1x256x512) z3]
  have := View.canon_append_of_piecesOf (Val := Elt Ideal) (e := .bf16) (fun y : S1x512x512.Idx => attF x0 x1 x2 (y 1) (y 2)) []
    [⟨r0_5, k0_pay1 (F := Ideal) (k0_pay4 (F := Ideal) x2) (k0_pay9 (F := Ideal) (k0_pay2 (F := Ideal) x0)) (k0_pay10 (F := Ideal) (k0_pay3 (F := Ideal) x1))⟩, ⟨r0_4, k0_pay8 (F := Ideal) (k0_pay2 (F := Ideal) x0) (k0_pay3 (F := Ideal) x1) (k0_pay4 (F := Ideal) x2)⟩,
      ⟨r0_3, k0_pay7 (F := Ideal) (k0_pay4 (F := Ideal) x2) (k0_pay6 (F := Ideal) x0 x1)⟩, ⟨r0_2, k0_pay5 (F := Ideal) x0 x1 x2⟩]
    ⟨piece x0 x1 x2 3 _ rfl, piece x0 x1 x2 2 _ rfl, piece x0 x1 x2 1 _ rfl, piece x0 x1 x2 0 _ rfl, trivial⟩ (ix3 0 r n) (cover0_3 _ _ _ _ _)
  rw [List.append_nil] at this
  exact this

variable (m : (ℓ : Loc nD τ sig) → Buf (Elt Ideal) ℓ) (c : Dev nD)

/-- The kernel's arguments: the queries, the memory's keys, the memory's values. -/
abbrev qK : FVec Ideal S4x2048x512 .f32 := m ((c : Thread nD τ).loc main_arg0)
@[inherit_doc qK] abbrev kK : FVec Ideal S4x256x4x128 .f32 := m ((c : Thread nD τ).loc main_arg1)
@[inherit_doc qK] abbrev vK : FVec Ideal S4x256x4x128 .f32 := m ((c : Thread nD τ).loc main_arg2)

/-! ## What a grid point reads -/

theorem q_at (b : Fin 4) (R : Fin 2048) (n : Fin 512) : (V m c main_arg0 : FVec Ideal S4x2048x512 .f32) (ix3 b R n) = qK m c (ix3 b R n) :=
  congrFun (V_main_arg0 m c) _
theorem k_at (b : Fin 4) (j : Fin 256) (n : Fin 512) : (V m c main_v0 : FVec Ideal S4x256x512 .f32) (ix3 b j n) = kK m c (ix4 b j ⟨n.val / 128, by omega⟩ ⟨n.val % 128, by omega⟩) := by
  unfold V
  after_reads_at
theorem v_at (b : Fin 4) (j : Fin 256) (n : Fin 512) : (V m c main_v1 : FVec Ideal S4x256x512 .f32) (ix3 b j n) = vK m c (ix4 b j ⟨n.val / 128, by omega⟩ ⟨n.val % 128, by omega⟩) := by
  unfold V
  after_reads_at

theorem idx0 : ∀ t : Fin cfg0.N, win0_0.index t = ![t.val / 4, t.val % 4, 0] ∧ win0_1.index t = ![t.val / 4, 0, 0] ∧ win0_2.index t = ![t.val / 4, 0, 0] ∧ win0_3.index t = ![t.val / 4, t.val % 4, 0] := by
  decide +kernel

/-- The batch of point `t`'s block. -/
abbrev batAt (t : Fin cfg0.N) : Fin 4 := ⟨t.val / 4, by have : t.val < 16 := t.isLt; omega⟩
/-- The row that row `r` of point `t`'s block is. -/
abbrev rowAt (t : Fin cfg0.N) (r : Fin 512) : Fin 2048 := ⟨t.val % 4 * 512 + r.val, by omega⟩

theorem blk0 (t : Fin cfg0.N) (r n : Fin 512) : (iblk m c 0 t : FVec Ideal S1x512x512 .f32) (ix3 0 r n) = qK m c (ix3 (batAt t) (rowAt t r) n) := by
  rw [← q_at m c]
  blk_ext [iblk, idx0 t]
theorem blk1 (t : Fin cfg0.N) (j : Fin 256) (n : Fin 512) : (iblk m c 1 t : FVec Ideal S1x256x512 .f32) (ix3 0 j n) = kK m c (ix4 (batAt t) j ⟨n.val / 128, by omega⟩ ⟨n.val % 128, by omega⟩) := by
  rw [← k_at m c]
  blk_ext [iblk, idx0 t]
theorem blk2 (t : Fin cfg0.N) (j : Fin 256) (n : Fin 512) : (iblk m c 2 t : FVec Ideal S1x256x512 .f32) (ix3 0 j n) = vK m c (ix4 (batAt t) j ⟨n.val / 128, by omega⟩ ⟨n.val % 128, by omega⟩) := by
  rw [← v_at m c]
  blk_ext [iblk, idx0 t]

/-- A point's block is the attention at its rows. -/
theorem block_at (t : Fin cfg0.N) (r n : Fin 512) : out0_3 (F := Ideal) (iblk m c 0 t) (iblk m c 1 t) (iblk m c 2 t) (ix3 0 r n) = XattnSpec.att (qK m c) (kK m c) (vK m c) (ix3 (batAt t) (rowAt t r) n) := by
  refine (out_at _ _ _ r n).trans ?_
  unfold attF
  simp only [blk0, blk1, blk2]
  have h1 : ∀ d : Fin 128, (n.val / 128 * 128 + d.val) / 128 = n.val / 128 := fun d => by omega
  have h2 : ∀ d : Fin 128, (n.val / 128 * 128 + d.val) % 128 = d.val := fun d => by omega
  simp only [h1, h2]
  rfl

/-! ## The array the run ends with -/

theorem arr3 : (dats m 0 c).arrAt 3 cfg0.N = XattnSpec.att (qK m c) (kK m c) (vK m c) := by
  refine (dats m 0 c).arrAt_eq_of_covers 3 _ (by decide +kernel) fun t hf (y : S1x512x512.Idx) => ?_
  obtain ⟨r, n, rfl⟩ : ∃ (r n : Fin 512), y = ix3 0 r n := ⟨y 1, y 2, by idx_ext⟩
  refine ((congrFun (after0_3 m c t) (ix3 0 r n)).trans (block_at m c t r n)).trans (?_ : _ = XattnSpec.att (qK m c) (kK m c) (vK m c) ((win0_3.blk t).view.emb (ix3 0 r n)))
  have e0 : (win0_3.blk t).view.emb (ix3 0 r n) = ix3 (batAt t) (rowAt t r) n := by
    blk_ext [idx0 t]
  rw [e0]

/-- The run ends with the attention, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v2) = XattnSpec.att (qK m c) (kK m c) (vK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (arr3 m c), (h c).2⟩) (Value.run_blocks m ρ)

end Cert.XattnValue

end
-- ==== Proof.XattnRef.lean ====
/-
  What the reference of the cross attention computes, over the extended reals: the same formula.
-/
module

public import proofs.«01_k».proof.Proof.XattnSpec
public import proofs.«01_k».proof.Proof.Gen.XattnRefIdeal.Run
public import Idealize.ShloMosaic.Lib.StableHlo.ReadAt
public import Idealize.ShloMosaic.Lib.KernelVsHost

@[expose] public section

set_option maxRecDepth 16384

noncomputable section

namespace Cert.XattnRef

open Idealize.ShloMosaic Idealize.ShloMosaic.TcCoe Idealize.SL.Sem Idealize.ShloMosaic.StableHlo Cert.XattnRefIdeal Cert.XattnRefIdeal.Gen

/-- The scaled scores, read at an index. -/
theorem score (q : FVec Ideal S4x2048x512 .f32) (k : FVec Ideal S4x256x4x128 .f32) (b h : Fin 4) (R : Fin 2048) (j : Fin 256) :
    ((mulf (Host.dotGeneral dot_S4x2048x4x128_S4x256x4x128_S4x4x2048x256_3_3_1_1_02_02 none (shapeCast _ q shapeCasts_S4x2048x512_S4x2048x4x128) k) (broadcastInDim S4x4x2048x256 ![] bcast_S_S4x4x2048x256 (constant S_ .f32 0x3DB504F3#32))) : FVec Ideal S4x4x2048x256 .f32) (ix4 b h R j)
      = XattnSpec.score (fun d => q (ix3 b R ⟨h.val * 128 + d.val, by omega⟩)) (fun d => k (ix4 b j h d)) := by
  pointwise
  rfl

/-- The literal, or a greater value. -/
theorem above (r : FVec Ideal S4x4x2048 .f32) (b h : Fin 4) (R : Fin 2048) :
    (maximumf (broadcastInDim S4x4x2048 ![] bcast_S_S4x4x2048 (constant S_ .f32 0xFF800000#32)) r : FVec Ideal S4x4x2048 .f32) (ix3 b h R)
      = max XattnSpec.low (r (ix3 b h R)) := by
  pointwise

/-- The maximum over the last axis. -/
theorem across (s : FVec Ideal S4x4x2048x256 .f32) (hr : S4x4x2048x256.Reduces [3] S4x4x2048) (b h : Fin 4) (R : Fin 2048) :
    (multiReduction .maximumf [3] S4x4x2048 s 0xFF800000#32 hr (.inl rfl) rfl : FVec Ideal S4x4x2048 .f32) (ix3 b h R)
      = Finset.fold max XattnSpec.low (fun j => s (ix4 b h R j)) Finset.univ := by
  pointwise

/-- A maximum that starts from the literal is not below it. -/
theorem fold_low (f : Fin 256 → EReal) : max XattnSpec.low (Finset.fold max XattnSpec.low f Finset.univ) = Finset.fold max XattnSpec.low f Finset.univ :=
  max_eq_right ((Finset.le_fold_max _).mpr (Or.inl le_rfl))

/-- The largest score. -/
theorem top (s : FVec Ideal S4x4x2048x256 .f32) (b h : Fin 4) (R : Fin 2048) :
    ((maximumf (broadcastInDim S4x4x2048 ![] bcast_S_S4x4x2048 (constant S_ .f32 0xFF800000#32)) (Host.reduce FloatOps.maximumf s (constant S_ .f32 0xFF800000#32) reducesTo_S4x4x2048x256_S4x4x2048_d3 h_S_)) : FVec Ideal S4x4x2048 .f32) (ix3 b h R)
      = Finset.fold max XattnSpec.low (fun j => s (ix4 b h R j)) Finset.univ := by
  have hr : S4x4x2048x256.Reduces [3] S4x4x2048 := by decide
  rw [above, hostReduce_maximumf_eq_multiReduction s 0xFF800000#32 _ _ hr (.inl rfl) rfl, across, fold_low]

/-- The exponentials. -/
theorem expo (s : FVec Ideal S4x4x2048x256 .f32) (m : FVec Ideal S4x4x2048 .f32) (b h : Fin 4) (R : Fin 2048) (j : Fin 256) :
    ((Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 m)))) : FVec Ideal S4x4x2048x256 .f32) (ix4 b h R j)
      = Ideal.exp (s (ix4 b h R j) - m (ix3 b h R)) := by
  pointwise

/-- The exponentials over their sum. -/
theorem prob (e : FVec Ideal S4x4x2048x256 .f32) (b h : Fin 4) (R : Fin 2048) (j : Fin 256) :
    ((Host.divf e (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd e (constant S_ .f32 0x00000000#32) reducesTo_S4x4x2048x256_S4x4x2048_d3 h_S_)))) : FVec Ideal S4x4x2048x256 .f32) (ix4 b h R j)
      = Ideal.div (e (ix4 b h R j)) (∑ j, e (ix4 b h R j)) := by
  pointwise

/-- The softmax. -/
theorem soft (s : FVec Ideal S4x4x2048x256 .f32) (m : FVec Ideal S4x4x2048 .f32) (hm : m = (maximumf (broadcastInDim S4x4x2048 ![] bcast_S_S4x4x2048 (constant S_ .f32 0xFF800000#32)) (Host.reduce FloatOps.maximumf s (constant S_ .f32 0xFF800000#32) reducesTo_S4x4x2048x256_S4x4x2048_d3 h_S_))) (b h : Fin 4) (R : Fin 2048) (j : Fin 256) :
    ((Host.divf (Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 m)))) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 m)))) (constant S_ .f32 0x00000000#32) reducesTo_S4x4x2048x256_S4x4x2048_d3 h_S_)))) : FVec Ideal S4x4x2048x256 .f32) (ix4 b h R j)
      = XattnSpec.soft (fun j => s (ix4 b h R j)) j := by
  have e : m (ix3 b h R) = _ := (congrFun hm _).trans (top s b h R)
  refine (prob _ b h R j).trans ?_
  unfold XattnSpec.soft
  rw [← e]
  exact congrArg₂ Ideal.div (expo s m b h R j) (Finset.sum_congr rfl fun j _ => expo s m b h R j)

/-- The values weighed, heads side by side. -/
theorem weigh (p : FVec Ideal S4x4x2048x256 .f32) (v : FVec Ideal S4x256x4x128 .f32) (b : Fin 4) (R : Fin 2048) (n : Fin 512) :
    (truncf .bf16 (shapeCast _ (transpose S4x2048x4x128 [0, 3, 1, 2] (Host.dotGeneral dot_S4x256x4x128_S4x4x2048x256_S4x4x128x2048_1_3_3_2_02_01 none v p) transposes_S4x4x128x2048_S4x2048x4x128_0_3_1_2) shapeCasts_S4x2048x4x128_S4x2048x512) bitsLt_bf16_f32 : FVec Ideal S4x2048x512 .bf16) (ix3 b R n)
      = ∑ j, p (ix4 b ⟨n.val / 128, by omega⟩ R j) * v (ix4 b j ⟨n.val / 128, by omega⟩ ⟨n.val % 128, by omega⟩) := by
  pointwise
  exact Finset.sum_congr rfl fun j _ => mul_comm _ _

theorem att (q : FVec Ideal S4x2048x512 .f32) (k v : FVec Ideal S4x256x4x128 .f32) :
    (truncf .bf16 (shapeCast _ (transpose S4x2048x4x128 [0, 3, 1, 2] (Host.dotGeneral dot_S4x256x4x128_S4x4x2048x256_S4x4x128x2048_1_3_3_2_02_01 none v (Host.divf (Host.exp (subf (mulf (Host.dotGeneral dot_S4x2048x4x128_S4x256x4x128_S4x4x2048x256_3_3_1_1_02_02 none (shapeCast _ q shapeCasts_S4x2048x512_S4x2048x4x128) k) (broadcastInDim S4x4x2048x256 ![] bcast_S_S4x4x2048x256 (constant S_ .f32 0x3DB504F3#32))) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (mulf (Host.dotGeneral dot_S4x2048x4x128_S4x256x4x128_S4x4x2048x256_3_3_1_1_02_02 none (shapeCast _ q shapeCasts_S4x2048x512_S4x2048x4x128) k) (broadcastInDim S4x4x2048x256 ![] bcast_S_S4x4x2048x256 (constant S_ .f32 0x3DB504F3#32))) (constant S_ .f32 0xFF800000#32) reducesTo_S4x4x2048x256_S4x4x2048_d3 h_S_)))))) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (Host.exp (subf (mulf (Host.dotGeneral dot_S4x2048x4x128_S4x256x4x128_S4x4x2048x256_3_3_1_1_02_02 none (shapeCast _ q shapeCasts_S4x2048x512_S4x2048x4x128) k) (broadcastInDim S4x4x2048x256 ![] bcast_S_S4x4x2048x256 (constant S_ .f32 0x3DB504F3#32))) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (Host.reduce FloatOps.maximumf (mulf (Host.dotGeneral dot_S4x2048x4x128_S4x256x4x128_S4x4x2048x256_3_3_1_1_02_02 none (shapeCast _ q shapeCasts_S4x2048x512_S4x2048x4x128) k) (broadcastInDim S4x4x2048x256 ![] bcast_S_S4x4x2048x256 (constant S_ .f32 0x3DB504F3#32))) (constant S_ .f32 0xFF800000#32) reducesTo_S4x4x2048x256_S4x4x2048_d3 h_S_)))))) (constant S_ .f32 0x00000000#32) reducesTo_S4x4x2048x256_S4x4x2048_d3 h_S_))))) transposes_S4x4x128x2048_S4x2048x4x128_0_3_1_2) shapeCasts_S4x2048x4x128_S4x2048x512) bitsLt_bf16_f32 : FVec Ideal S4x2048x512 .bf16)
      = XattnSpec.att q k v := by
  refine funext fun (j : S4x2048x512.Idx) => ?_
  obtain ⟨b, R, n, rfl⟩ : ∃ (b : Fin 4) (R : Fin 2048) (n : Fin 512), j = ix3 b R n := ⟨j 0, j 1, j 2, eq_ix3 j⟩
  refine (weigh _ v b R n).trans (Finset.sum_congr rfl fun j _ => congrArg (· * v _) ?_)
  refine (soft _ _ rfl b _ R j).trans ?_
  exact congrArg (fun s => XattnSpec.soft s j) (funext fun j => score q k b _ R j)

end Cert.XattnRef

end
-- ==== Proof.MixSpec.lean ====
/-
  The two branches mixed, as a formula: each branch's rows normalised head by head, times its weights, gated, added.
-/
module

public import proofs.«01_k».proof.Proof.InSpec
public import proofs.«01_k».proof.MixIdeal

@[expose] public section

noncomputable section

namespace Cert.MixSpec

open Idealize.ShloMosaic Cert.MixIdeal

/-- The literal under both roots. -/
abbrev eps : EReal := (FloatOps.ofBits .f32 0x358637BD#32 : Ideal .f32)

/-- The retention's row at column `e`: normalised over the column's head, scaled, and times its own gate. -/
def ret (o g rg : Fin 1024 → EReal) (e : Fin 1024) : EReal :=
  o e * Ideal.rsqrt (Ideal.div (∑ d : Fin 128, o ⟨e.val / 128 * 128 + d.val, by omega⟩ * o ⟨e.val / 128 * 128 + d.val, by omega⟩) (FloatOps.ofBits .f32 0x43000000#32 : Ideal .f32) + eps) * g e
    * (rg e * Ideal.logistic (rg e))

/-- The differential attention's row at column `e`: normalised over the column's head, scaled, and times the layer's factor. -/
def dif (o : Fin 1024 → EReal) (g : Fin 256 → EReal) (e : Fin 1024) : EReal :=
  o e * Ideal.rsqrt (Ideal.div (∑ d : Fin 256, o ⟨e.val / 256 * 256 + d.val, by omega⟩ * o ⟨e.val / 256 * 256 + d.val, by omega⟩) (FloatOps.ofBits .f32 0x43800000#32 : Ideal .f32) + eps) * g ⟨e.val % 256, by omega⟩
    * (FloatOps.ofBits .f32 0x3F4CCCCD#32 : Ideal .f32)

/-- The two gates' sum. -/
def gate (ga gb : EReal) (r wa d wb : Fin 1024 → EReal) : EReal :=
  Ideal.logistic ga * (∑ e, r e * wa e) + Ideal.logistic gb * ∑ e, d e * wb e

/-- The mixed rows. -/
def mix (z : FVec Ideal S8192x11264 .f32) (o o' : FVec Ideal S8192x1024 .f32) (g : FVec Ideal S1024 .f32) (g' : FVec Ideal S256 .f32) (wa wb : FVec Ideal S1024x2048 .f32) : FVec Ideal S8192x2048 .bf16 :=
  fun (i : S8192x2048.Idx) => gate (z (ix2 (i 0) ⟨7168 + (i 1 : Fin 2048).val, by have h : (i 1).val < 2048 := (i 1).isLt; show _ + (i 1).val < 11264; omega⟩)) (z (ix2 (i 0) ⟨9216 + (i 1 : Fin 2048).val, by have h : (i 1).val < 2048 := (i 1).isLt; show _ + (i 1).val < 11264; omega⟩))
    (ret (fun e => o (ix2 (i 0) e)) (fun e => g (ix1 e)) (fun e => z (ix2 (i 0) ⟨3072 + e.val, by omega⟩))) (fun e => wa (ix2 e (i 1)))
    (dif (fun e => o' (ix2 (i 0) e)) (fun e => g' (ix1 e))) (fun e => wb (ix2 e (i 1)))

end Cert.MixSpec

end
-- ==== Proof.MixBlock.lean ====
/-
  What a grid point of the branches' gate leaves in its buffers: the two branches' rows, head by head, and the gated sum.
-/
module

public import proofs.«01_k».proof.Proof.MixSpec
public import proofs.«01_k».proof.Proof.Gen.MixIdeal.Skeleton
public import proofs.«01_k».proof.Proof.Gen.MixIdeal.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.MixBlock

open Idealize.ShloMosaic Idealize.ShloMosaic.TcCoe Idealize.SL.Sem Cert.MixIdeal Cert.MixIdeal.Gen Cert.MixSpec

theorem z2 : (![0, 0] : Fin 2 → Nat) = fun _ => 0 := funext fun a => by fin_cases a <;> rfl

/-- The retention's rows of a block, all heads side by side. -/
def retF (x0 x1 : FVec Ideal S512x1024 .f32) (x5 : FVec Ideal S1x1024 .f32) (y : S512x1024.Idx) : EReal :=
  ret (fun e => x0 (ix2 (y 0) e)) (fun e => x5 (ix2 0 e)) (fun e => x1 (ix2 (y 0) e)) (y 1)
/-- The differential attention's rows of a block, all heads side by side. -/
def difF (x2 : FVec Ideal S512x1024 .f32) (x6 : FVec Ideal S1x256 .f32) (y : S512x1024.Idx) : EReal :=
  dif (fun e => x2 (ix2 (y 0) e)) (fun e => x6 (ix2 0 e)) (y 1)

/-- Stores that are each a part of `G` and cover the buffer leave `G`. -/
theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- The place of a retention head's columns. -/
theorem inR (h : Fin 8) : ∀ a, (![0, 128 * h.val] : Fin 2 → Nat) a + (![512, 128] : Fin 2 → Nat) a ≤ S512x1024.size a :=
  fun a => by fin_cases a <;> simp [Shape.size] <;> omega
@[inherit_doc inR] theorem inG (h : Fin 8) : ∀ a, (![0, 128 * h.val] : Fin 2 → Nat) a + (![1, 128] : Fin 2 → Nat) a ≤ S1x1024.size a :=
  fun a => by fin_cases a <;> simp [Shape.size] <;> omega
/-- The place of a differential head's columns. -/
theorem inD (h : Fin 4) : ∀ a, (![0, 256 * h.val] : Fin 2 → Nat) a + (![512, 256] : Fin 2 → Nat) a ≤ S512x1024.size a :=
  fun a => by fin_cases a <;> simp [Shape.size] <;> omega

/-- A retention head's columns of a block. -/
def hdR (x : Vec Ideal S512x1024 .f32) (h : Fin 8) : Vec Ideal S512x128 .f32 := View.ld (Val := Elt Ideal) (e' := .f32) x (Rect.unit ![0, 128 * h.val] ![512, 128] (inR h))
@[inherit_doc hdR] def hdG (x : Vec Ideal S1x1024 .f32) (h : Fin 8) : Vec Ideal S1x128 .f32 := View.ld (Val := Elt Ideal) (e' := .f32) x (Rect.unit ![0, 128 * h.val] ![1, 128] (inG h))
/-- A differential head's columns of a block. -/
def hdD (x : Vec Ideal S512x1024 .f32) (h : Fin 4) : Vec Ideal S512x256 .f32 := View.ld (Val := Elt Ideal) (e' := .f32) x (Rect.unit ![0, 256 * h.val] ![512, 256] (inD h))

theorem hdR_at (x : FVec Ideal S512x1024 .f32) (h : Fin 8) (i : Fin 512) (j : Fin 128) : hdR x h (ix2 i j) = x (ix2 i ⟨h.val * 128 + j.val, by omega⟩) := by
  pointwise [hdR]
  exact congrArg x (congrArg (ix2 _) (Fin.ext (by dsimp only; omega)))
theorem hdG_at (x : FVec Ideal S1x1024 .f32) (h : Fin 8) (j : Fin 128) : hdG x h (ix2 0 j) = x (ix2 0 ⟨h.val * 128 + j.val, by omega⟩) := by
  pointwise [hdG]
  exact congrArg x (congrArg (ix2 _) (Fin.ext (by dsimp only; omega)))
theorem hdD_at (x : FVec Ideal S512x1024 .f32) (h : Fin 4) (i : Fin 512) (j : Fin 256) : hdD x h (ix2 i j) = x (ix2 i ⟨h.val * 256 + j.val, by omega⟩) := by
  pointwise [hdD]
  exact congrArg x (congrArg (ix2 _) (Fin.ext (by dsimp only; omega)))

theorem pay4_at (x : FVec Ideal S512x128 .f32) (g : FVec Ideal S1x128 .f32) (rg : FVec Ideal S512x128 .f32) (i : Fin 512) (j : Fin 128) : k0_pay4 (F := Ideal) x g rg (ix2 i j)
    = x (ix2 i j) * Ideal.rsqrt (Ideal.div (∑ d : Fin 128, x (ix2 i d) * x (ix2 i d)) (FloatOps.ofBits .f32 0x43000000#32 : Ideal .f32) + eps) * g (ix2 0 j) * (rg (ix2 i j) * Ideal.logistic (rg (ix2 i j))) := by
  unfold k0_pay4
  pointwise
theorem pay2_at (x : FVec Ideal S512x256 .f32) (g : FVec Ideal S1x256 .f32) (i : Fin 512) (j : Fin 256) : k0_pay2 (F := Ideal) x g (ix2 i j)
    = x (ix2 i j) * Ideal.rsqrt (Ideal.div (∑ d : Fin 256, x (ix2 i d) * x (ix2 i d)) (FloatOps.ofBits .f32 0x43800000#32 : Ideal .f32) + eps) * g (ix2 0 j) * (FloatOps.ofBits .f32 0x3F4CCCCD#32 : Ideal .f32) := by
  unfold k0_pay2
  pointwise
theorem pay3_at (x0 x2 : FVec Ideal S512x1024 .bf16) (x1 x3 : FVec Ideal S1024x1024 .bf16) (x4 x5 : FVec Ideal S512x1024 .f32) (i : Fin 512) (j : Fin 1024) : k0_pay3 (F := Ideal) x0 x1 x2 x3 x4 x5 (ix2 i j)
    = gate (x4 (ix2 i j)) (x5 (ix2 i j)) (fun e => x0 (ix2 i e)) (fun e => x1 (ix2 e j)) (fun e => x2 (ix2 i e)) (fun e => x3 (ix2 e j)) := by
  unfold k0_pay3 gate
  pointwise

/-- A retention head's stored columns are its part of the whole. -/
theorem ret_piece (x0 x1 : FVec Ideal S512x1024 .f32) (x5 : FVec Ideal S1x1024 .f32) (h : Fin 8)
    (p : FVec Ideal S512x128 .bf16) (hp : p = k0_pay4 (hdR x0 h) (hdG x5 h) (hdR x1 h)) (x : S512x128.Idx) :
    p x = retF x0 x1 x5 ((Rect.unit (s := S512x1024) ![0, 128 * h.val] ![512, 128] (inR h)).emb x) := by
  subst hp
  obtain ⟨i, j, rfl⟩ : ∃ (i : Fin 512) (j : Fin 128), x = ix2 i j := ⟨x 0, x 1, eq_ix2 x⟩
  rw [pay4_at]
  simp only [hdR_at, hdG_at]
  have e : (Rect.unit (s := S512x1024) ![0, 128 * h.val] ![512, 128] (inR h)).emb (ix2 i j) = ix2 i ⟨h.val * 128 + j.val, by omega⟩ := by idx_ext
  rw [e]
  have h1 : (h.val * 128 + j.val) / 128 = h.val := by omega
  show _ = ret (fun e => x0 (ix2 i e)) (fun e => x5 (ix2 0 e)) (fun e => x1 (ix2 i e)) ⟨h.val * 128 + j.val, by omega⟩
  unfold ret
  simp only [h1]

/-- A differential head's stored columns are its part of the whole. -/
theorem dif_piece (x2 : FVec Ideal S512x1024 .f32) (x6 : FVec Ideal S1x256 .f32) (h : Fin 4)
    (p : FVec Ideal S512x256 .bf16) (hp : p = k0_pay2 (hdD x2 h) x6) (x : S512x256.Idx) :
    p x = difF x2 x6 ((Rect.unit (s := S512x1024) ![0, 256 * h.val] ![512, 256] (inD h)).emb x) := by
  subst hp
  obtain ⟨i, j, rfl⟩ : ∃ (i : Fin 512) (j : Fin 256), x = ix2 i j := ⟨x 0, x 1, eq_ix2 x⟩
  rw [pay2_at]
  simp only [hdD_at]
  have e : (Rect.unit (s := S512x1024) ![0, 256 * h.val] ![512, 256] (inD h)).emb (ix2 i j) = ix2 i ⟨h.val * 256 + j.val, by omega⟩ := by idx_ext
  rw [e]
  have h1 : (h.val * 256 + j.val) / 256 = h.val := by omega
  have h2 : (h.val * 256 + j.val) % 256 = j.val := by omega
  show _ = dif (fun e => x2 (ix2 i e)) (fun e => x6 (ix2 0 e)) ⟨h.val * 256 + j.val, by omega⟩
  unfold dif
  simp only [h1, h2]

variable (m : (ℓ : Loc nD τ sig) → Buf (Elt Ideal) ℓ) (c : Dev nD)

/-- The retention's rows an even point keeps. -/
theorem keep_ret (t : Fin cfg0.N) (h : t.val % 2 = 0) (y : S512x1024.Idx) : (outsAt0 m c t.val t.isLt).2.1 y = retF (iblk m c 0 t) (iblk m c 1 t) (iblk m c 5 t) y := by
  rw [outsAt0_A m c t h]
  dsimp only
  unfold sout0_A_0
  rw [View.read_writes_eq_canon _ _ _ (scover0_A_0 _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_5 t).read_unread]
  refine canon_pieces (e := .bf16) (retF (iblk m c 0 t) (iblk m c 1 t) (iblk m c 5 t)) _ ?_ y (View.cover_of_tiledL _ ![512, 128] (by sl_kernel_rfl) y)
  exact ⟨ret_piece _ _ _ 7 _ rfl, ret_piece _ _ _ 6 _ rfl, ret_piece _ _ _ 5 _ rfl, ret_piece _ _ _ 4 _ rfl, ret_piece _ _ _ 3 _ rfl, ret_piece _ _ _ 2 _ rfl, ret_piece _ _ _ 1 _ rfl, ret_piece _ _ _ 0 _ rfl, trivial⟩

/-- The differential attention's rows an even point keeps. -/
theorem keep_dif (t : Fin cfg0.N) (h : t.val % 2 = 0) (y : S512x1024.Idx) : (outsAt0 m c t.val t.isLt).2.2 y = difF (iblk m c 2 t) (iblk m c 6 t) y := by
  rw [outsAt0_A m c t h]
  dsimp only
  unfold sout0_A_1
  rw [View.read_writes_eq_canon _ _ _ (scover0_A_1 _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_2 t).read_unread, (hs0_6 t).read_unread, View.ld_unit_zero (S := S1x256) z2]
  refine canon_pieces (e := .bf16) (difF (iblk m c 2 t) (iblk m c 6 t)) _ ?_ y (View.cover_of_tiledL _ ![512, 256] (by sl_kernel_rfl) y)
  exact ⟨dif_piece _ _ 3 _ rfl, dif_piece _ _ 2 _ rfl, dif_piece _ _ 1 _ rfl, dif_piece _ _ 0 _ rfl, trivial⟩

/-- The block an even point writes: the gated sum of the rows it keeps. -/
theorem out_A (t : Fin cfg0.N) (h : t.val % 2 = 0) : (outsAt0 m c t.val t.isLt).1
    = k0_pay3 (F := Ideal) (retF (iblk m c 0 t) (iblk m c 1 t) (iblk m c 5 t)) (iblk m c 7 t) (difF (iblk m c 2 t) (iblk m c 6 t)) (iblk m c 8 t) (iblk m c 3 t) (iblk m c 4 t) := by
  rw [outsAt0_A m c t h]
  frame_out
  congr 1
  · rw [View.readCov_eq_canon']
    refine funext fun y => (canon_pieces (e := .bf16) (retF (iblk m c 0 t) (iblk m c 1 t) (iblk m c 5 t)) _ ?_ _ (View.cover_of_tiledL _ ![512, 128] (by sl_kernel_rfl) _)).trans (congrArg _ (by idx_ext))
    exact ⟨ret_piece _ _ _ 7 _ rfl, ret_piece _ _ _ 6 _ rfl, ret_piece _ _ _ 5 _ rfl, ret_piece _ _ _ 4 _ rfl, ret_piece _ _ _ 3 _ rfl, ret_piece _ _ _ 2 _ rfl, ret_piece _ _ _ 1 _ rfl, ret_piece _ _ _ 0 _ rfl, trivial⟩
  · rw [View.readCov_eq_canon']
    refine funext fun y => (canon_pieces (e := .bf16) (difF (iblk m c 2 t) (iblk m c 6 t)) _ ?_ _ (View.cover_of_tiledL _ ![512, 256] (by sl_kernel_rfl) _)).trans (congrArg _ (by idx_ext))
    exact ⟨dif_piece _ _ 3 _ rfl, dif_piece _ _ 2 _ rfl, dif_piece _ _ 1 _ rfl, dif_piece _ _ 0 _ rfl, trivial⟩

/-- The block an odd point writes: the gated sum of the rows kept by the point before. -/
theorem out_B (t : Fin cfg0.N) (h : ¬ t.val % 2 = 0) : (outsAt0 m c t.val t.isLt).1
    = k0_pay3 (outsAt0 m c (t.val - 1) (Nat.lt_of_le_of_lt (Nat.sub_le _ _) t.isLt)).2.1 (iblk m c 7 t) (outsAt0 m c (t.val - 1) (Nat.lt_of_le_of_lt (Nat.sub_le _ _) t.isLt)).2.2 (iblk m c 8 t) (iblk m c 3 t) (iblk m c 4 t) := by
  rw [outsAt0_B m c t h]
  frame_out
  simp only [read_unread_whole]

end Cert.MixBlock

end
-- ==== Proof.MixValue.lean ====
/-
  The branches' gate, over the extended reals: what the kernel's run ends with.
-/
module

public import proofs.«01_k».proof.Proof.MixBlock

@[expose] public section

set_option maxRecDepth 16384

noncomputable section

namespace Cert.MixValue

open Idealize.ShloMosaic Idealize.ShloMosaic.TcCoe Idealize.SL.Sem Idealize.ShloMosaic.StableHlo
open Cert.MixIdeal Cert.MixIdeal.Gen Cert.MixSpec Cert.MixBlock

variable (m : (ℓ : Loc nD τ sig) → Buf (Elt Ideal) ℓ) (c : Dev nD)

/-- The kernel's arguments: the projected rows, the two branches' rows, their scales, their weights. -/
abbrev zK : FVec Ideal S8192x11264 .f32 := m ((c : Thread nD τ).loc main_arg0)
@[inherit_doc zK] abbrev roK : FVec Ideal S8192x1024 .f32 := m ((c : Thread nD τ).loc main_arg1)
@[inherit_doc zK] abbrev doK : FVec Ideal S8192x1024 .f32 := m ((c : Thread nD τ).loc main_arg2)
@[inherit_doc zK] abbrev rgK : FVec Ideal S1024 .f32 := m ((c : Thread nD τ).loc main_arg3)
@[inherit_doc zK] abbrev dgK : FVec Ideal S256 .f32 := m ((c : Thread nD τ).loc main_arg4)
@[inherit_doc zK] abbrev waK : FVec Ideal S1024x2048 .f32 := m ((c : Thread nD τ).loc main_arg5)
@[inherit_doc zK] abbrev wbK : FVec Ideal S1024x2048 .f32 := m ((c : Thread nD τ).loc main_arg6)

/-! ## What a grid point reads -/

theorem z_at (R : Fin 8192) (k : Fin 11264) : (V m c main_arg0 : FVec Ideal S8192x11264 .f32) (ix2 R k) = zK m c (ix2 R k) :=
  congrFun (V_main_arg0 m c) _
theorem ro_at (R : Fin 8192) (k : Fin 1024) : (V m c main_arg1 : FVec Ideal S8192x1024 .f32) (ix2 R k) = roK m c (ix2 R k) :=
  congrFun (V_main_arg1 m c) _
theorem do_at (R : Fin 8192) (k : Fin 1024) : (V m c main_arg2 : FVec Ideal S8192x1024 .f32) (ix2 R k) = doK m c (ix2 R k) :=
  congrFun (V_main_arg2 m c) _
theorem wa_at (k : Fin 1024) (n : Fin 2048) : (V m c main_v0 : FVec Ideal S1024x2048 .bf16) (ix2 k n) = waK m c (ix2 k n) := by
  unfold V
  after_reads_at
theorem wb_at (k : Fin 1024) (n : Fin 2048) : (V m c main_v1 : FVec Ideal S1024x2048 .bf16) (ix2 k n) = wbK m c (ix2 k n) := by
  unfold V
  after_reads_at
theorem rg_at (k : Fin 1024) : (V m c main_v2 : FVec Ideal S1x1024 .f32) (ix2 0 k) = rgK m c (ix1 k) := by
  unfold V
  after_reads_at
theorem dg_at (k : Fin 256) : (V m c main_v3 : FVec Ideal S1x256 .f32) (ix2 0 k) = dgK m c (ix1 k) := by
  unfold V
  after_reads_at

theorem idx0 : ∀ t : Fin cfg0.N, win0_0.index t = ![t.val / 2, 0] ∧ win0_1.index t = ![t.val / 2, 3] ∧ win0_2.index t = ![t.val / 2, 0] ∧ win0_3.index t = ![t.val / 2, 7 + t.val % 2]
    ∧ win0_4.index t = ![t.val / 2, 9 + t.val % 2] ∧ win0_5.index t = ![0, 0] ∧ win0_6.index t = ![0, 0] ∧ win0_7.index t = ![0, t.val % 2] ∧ win0_8.index t = ![0, t.val % 2] ∧ win0_9.index t = ![t.val / 2, t.val % 2] := by
  decide +kernel

/-- The row that row `r` of point `t`'s block is. -/
abbrev rowAt (t : Fin cfg0.N) (r : Fin 512) : Fin 8192 := ⟨t.val / 2 * 512 + r.val, by have : t.val < 32 := t.isLt; omega⟩
/-- The column that column `n` of point `t`'s block is. -/
abbrev colAt (t : Fin cfg0.N) (n : Fin 1024) : Fin 2048 := ⟨t.val % 2 * 1024 + n.val, by omega⟩

theorem blk0 (t : Fin cfg0.N) (r : Fin 512) (k : Fin 1024) : (iblk m c 0 t : FVec Ideal S512x1024 .f32) (ix2 r k) = roK m c (ix2 (rowAt t r) k) := by
  rw [← ro_at m c]
  blk_ext [iblk, idx0 t]
theorem blk1 (t : Fin cfg0.N) (r : Fin 512) (k : Fin 1024) : (iblk m c 1 t : FVec Ideal S512x1024 .f32) (ix2 r k) = zK m c (ix2 (rowAt t r) ⟨3072 + k.val, by omega⟩) := by
  rw [← z_at m c]
  blk_ext [iblk, idx0 t]
theorem blk2 (t : Fin cfg0.N) (r : Fin 512) (k : Fin 1024) : (iblk m c 2 t : FVec Ideal S512x1024 .f32) (ix2 r k) = doK m c (ix2 (rowAt t r) k) := by
  rw [← do_at m c]
  blk_ext [iblk, idx0 t]
theorem blk3 (t : Fin cfg0.N) (r : Fin 512) (k : Fin 1024) : (iblk m c 3 t : FVec Ideal S512x1024 .f32) (ix2 r k) = zK m c (ix2 (rowAt t r) ⟨7168 + (colAt t k).val, by omega⟩) := by
  rw [← z_at m c]
  blk_ext [iblk, idx0 t]
theorem blk4 (t : Fin cfg0.N) (r : Fin 512) (k : Fin 1024) : (iblk m c 4 t : FVec Ideal S512x1024 .f32) (ix2 r k) = zK m c (ix2 (rowAt t r) ⟨9216 + (colAt t k).val, by omega⟩) := by
  rw [← z_at m c]
  blk_ext [iblk, idx0 t]
theorem blk5 (t : Fin cfg0.N) (k : Fin 1024) : (iblk m c 5 t : FVec Ideal S1x1024 .f32) (ix2 0 k) = rgK m c (ix1 k) := by
  rw [← rg_at m c]
  blk_ext [iblk, idx0 t]
theorem blk6 (t : Fin cfg0.N) (k : Fin 256) : (iblk m c 6 t : FVec Ideal S1x256 .f32) (ix2 0 k) = dgK m c (ix1 k) := by
  rw [← dg_at m c]
  blk_ext [iblk, idx0 t]
theorem blk7 (t : Fin cfg0.N) (k n : Fin 1024) : (iblk m c 7 t : FVec Ideal S1024x1024 .bf16) (ix2 k n) = waK m c (ix2 k (colAt t n)) := by
  rw [← wa_at m c]
  blk_ext [iblk, idx0 t]
theorem blk8 (t : Fin cfg0.N) (k n : Fin 1024) : (iblk m c 8 t : FVec Ideal S1024x1024 .bf16) (ix2 k n) = wbK m c (ix2 k (colAt t n)) := by
  rw [← wb_at m c]
  blk_ext [iblk, idx0 t]

/-! ## What a grid point computes -/

/-- The rows kept, in the kernel's arguments. -/
theorem ret_at (t : Fin cfg0.N) (r : Fin 512) (e : Fin 1024) : retF (iblk m c 0 t) (iblk m c 1 t) (iblk m c 5 t) (ix2 r e)
    = ret (fun e => roK m c (ix2 (rowAt t r) e)) (fun e => rgK m c (ix1 e)) (fun e => zK m c (ix2 (rowAt t r) ⟨3072 + e.val, by omega⟩)) e := by
  show ret (fun e => (iblk m c 0 t : FVec Ideal S512x1024 .f32) (ix2 r e)) (fun e => (iblk m c 5 t : FVec Ideal S1x1024 .f32) (ix2 0 e)) (fun e => (iblk m c 1 t : FVec Ideal S512x1024 .f32) (ix2 r e)) e = _
  simp only [blk0, blk1, blk5]
@[inherit_doc ret_at]
theorem dif_at (t : Fin cfg0.N) (r : Fin 512) (e : Fin 1024) : difF (iblk m c 2 t) (iblk m c 6 t) (ix2 r e)
    = dif (fun e => doK m c (ix2 (rowAt t r) e)) (fun e => dgK m c (ix1 e)) e := by
  show dif (fun e => (iblk m c 2 t : FVec Ideal S512x1024 .f32) (ix2 r e)) (fun e => (iblk m c 6 t : FVec Ideal S1x256 .f32) (ix2 0 e)) e = _
  simp only [blk2, blk6]

/-- A point's block is the mixed rows at its rows and its columns. -/
theorem block_at (t : Fin cfg0.N) (r : Fin 512) (n : Fin 1024) : (outsAt0 m c t.val t.isLt).1 (ix2 r n)
    = gate (zK m c (ix2 (rowAt t r) ⟨7168 + (colAt t n).val, by omega⟩)) (zK m c (ix2 (rowAt t r) ⟨9216 + (colAt t n).val, by omega⟩))
      (ret (fun e => roK m c (ix2 (rowAt t r) e)) (fun e => rgK m c (ix1 e)) (fun e => zK m c (ix2 (rowAt t r) ⟨3072 + e.val, by omega⟩))) (fun e => waK m c (ix2 e (colAt t n)))
      (dif (fun e => doK m c (ix2 (rowAt t r) e)) (fun e => dgK m c (ix1 e))) (fun e => wbK m c (ix2 e (colAt t n))) := by
  by_cases h : t.val % 2 = 0
  · rw [out_A m c t h, pay3_at]
    simp only [blk3, blk4, blk7, blk8, ret_at, dif_at]
  · have ht : t.val < 32 := t.isLt
    have hr : rowAt ⟨t.val - 1, by omega⟩ r = rowAt t r := Fin.ext (by show (t.val - 1) / 2 * 512 + r.val = t.val / 2 * 512 + r.val; omega)
    have h0 : ∀ e, _ = _ := fun e : Fin 1024 => (keep_ret m c ⟨t.val - 1, by omega⟩ (by show (t.val - 1) % 2 = 0; omega) (ix2 r e)).trans (ret_at m c ⟨t.val - 1, by omega⟩ r e)
    have h1 : ∀ e, _ = _ := fun e : Fin 1024 => (keep_dif m c ⟨t.val - 1, by omega⟩ (by show (t.val - 1) % 2 = 0; omega) (ix2 r e)).trans (dif_at m c ⟨t.val - 1, by omega⟩ r e)
    dsimp only at h0 h1
    rw [out_B m c t h, pay3_at]
    simp only [h0, h1, blk3, blk4, blk7, blk8, hr]

/-! ## The array the run ends with -/

theorem arr9 : (dats m 0 c).arrAt 9 cfg0.N = MixSpec.mix (zK m c) (roK m c) (doK m c) (rgK m c) (dgK m c) (waK m c) (wbK m c) := by
  refine (dats m 0 c).arrAt_eq_of_covers 9 _ (by decide +kernel) fun t hf (y : S512x1024.Idx) => ?_
  obtain ⟨r, n, rfl⟩ : ∃ (r : Fin 512) (n : Fin 1024), y = ix2 r n := ⟨y 0, y 1, eq_ix2 y⟩
  rw [after0_9]
  refine (block_at m c t r n).trans (?_ : _ = MixSpec.mix (zK m c) (roK m c) (doK m c) (rgK m c) (dgK m c) (waK m c) (wbK m c) ((win0_9.blk t).view.emb (ix2 r n)))
  have e0 : (win0_9.blk t).view.emb (ix2 r n) = ix2 (rowAt t r) (colAt t n) := by
    blk_ext [idx0 t]
  rw [e0]
  rfl

/-- The run ends with the mixed rows, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v4) = MixSpec.mix (zK m c) (roK m c) (doK m c) (rgK m c) (dgK m c) (waK m c) (wbK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (arr9 m c), (h c).2⟩) (Value.run_blocks m ρ)

end Cert.MixValue

end
-- ==== Proof.MixRef.lean ====
/-
  What the reference of the branches' gate computes, over the extended reals: the same formula.
-/
module

public import proofs.«01_k».proof.Proof.MixSpec
public import proofs.«01_k».proof.Proof.Gen.MixRefIdeal.Run
public import Idealize.ShloMosaic.Lib.StableHlo.ReadAt

@[expose] public section

set_option maxRecDepth 16384

noncomputable section

namespace Cert.MixRef

open Idealize.ShloMosaic Idealize.ShloMosaic.TcCoe Idealize.SL.Sem Idealize.ShloMosaic.StableHlo Cert.MixRefIdeal Cert.MixRefIdeal.Gen

theorem mix (z : FVec Ideal S8192x11264 .f32) (o o' : FVec Ideal S8192x1024 .f32) (g : FVec Ideal S1024 .f32) (g' : FVec Ideal S256 .f32) (wa wb : FVec Ideal S1024x2048 .f32) :
    (truncf .bf16 (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 7168] z slices_S8192x11264_S8192x2048_0_7168))))) (Host.dotGeneral dot_S8192x1024_S1024x2048_S8192x2048_1_0_0_1_n_n none (mulf (shapeCast _ (mulf (mulf (shapeCast _ o shapeCasts_S8192x1024_S8192x8x128) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (shapeCast _ o shapeCasts_S8192x1024_S8192x8x128) (shapeCast _ o shapeCasts_S8192x1024_S8192x8x128)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x8x128_S8192x8x128_0_1_2 (broadcastInDim S1x8x128 ![1, 2] bcast_S8x128_S1x8x128_1_2 (shapeCast _ g shapeCasts_S1024_S8x128)))) shapeCasts_S8192x8x128_S8192x1024) (mulf (extractStridedSlice S8192x1024 ![0, 3072] z slices_S8192x11264_S8192x1024_0_3072) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 3072] z slices_S8192x11264_S8192x1024_0_3072))))))) wa)) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 9216] z slices_S8192x11264_S8192x2048_0_9216))))) (Host.dotGeneral dot_S8192x1024_S1024x2048_S8192x2048_1_0_0_1_n_n none (shapeCast _ (mulf (mulf (mulf (shapeCast _ o' shapeCasts_S8192x1024_S8192x4x256) (broadcastInDim S8192x4x256 ![0, 1, 2] bcast_S8192x4x1_S8192x4x256_0_1_2 (Host.rsqrt (addf (Host.divf (broadcastInDim S8192x4x1 ![0, 1] bcast_S8192x4_S8192x4x1_0_1 (Host.reduceAdd (mulf (shapeCast _ o' shapeCasts_S8192x1024_S8192x4x256) (shapeCast _ o' shapeCasts_S8192x1024_S8192x4x256)) (constant S_ .f32 0x00000000#32) reducesTo_S8192x4x256_S8192x4_d2 h_S_)) (broadcastInDim S8192x4x1 ![] bcast_S_S8192x4x1 (constant S_ .f32 0x43800000#32))) (broadcastInDim S8192x4x1 ![] bcast_S_S8192x4x1 (constant S_ .f32 0x358637BD#32)))))) (broadcastInDim S8192x4x256 ![0, 1, 2] bcast_S1x1x256_S8192x4x256_0_1_2 (broadcastInDim S1x1x256 ![2] bcast_S256_S1x1x256_2 g'))) (broadcastInDim S8192x4x256 ![] bcast_S_S8192x4x256 (constant S_ .f32 0x3F4CCCCD#32))) shapeCasts_S8192x4x256_S8192x1024) wb))) bitsLt_bf16_f32 : FVec Ideal S8192x2048 .bf16)
      = MixSpec.mix z o o' g g' wa wb := by
  refine funext fun (j : S8192x2048.Idx) => ?_
  obtain ⟨R, n, rfl⟩ : ∃ (R : Fin 8192) (n : Fin 2048), j = ix2 R n := ⟨j 0, j 1, eq_ix2 j⟩
  pointwise
  rfl

end Cert.MixRef

end
-- ==== Proof.lean ====
/-
  The certificate: the frames are the generated ones, the reference's from its run, and the value claims are the two
  runs' results read element by element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Frame
public import proofs.«01_k».proof.Proof.Gen.InRefIdeal
public import proofs.«01_k».proof.Proof.Gen.InRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Pq
public import proofs.«01_k».proof.Proof.Gen.Pq.Frame
public import proofs.«01_k».proof.Proof.Gen.PqIdeal
public import proofs.«01_k».proof.Proof.Gen.PqIdeal.Skeleton
public import proofs.«01_k».proof.Proof.Gen.PqIdeal.Frame
public import proofs.«01_k».proof.Proof.Gen.PqIdeal.Value
public import proofs.«01_k».proof.Proof.Gen.PqRefIdeal
public import proofs.«01_k».proof.Proof.Gen.PqRefIdeal.Run
public import proofs.«01_k».proof.Proof.Gen.Xq
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Frame
public import proofs.«01_k».proof.Proof.Gen.XqIdeal.Value
public import proofs.«01_k».proof.Proof.Gen.XqRefIdeal
public import proofs.«01_k».proof.Proof.Gen.XqRefIdeal.Run
public import proofs.«01_k».proof.Proof.Gen.Out
public import proofs.«01_k».proof.Proof.Gen.Out.Frame
public import proofs.«01_k».proof.Proof.Gen.OutIdeal
public import proofs.«01_k».proof.Proof.Gen.OutIdeal.Skeleton
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Xo
public import proofs.«01_k».proof.Proof.Gen.Xo.Frame
public import proofs.«01_k».proof.Proof.Gen.XoIdeal
public import proofs.«01_k».proof.Proof.Gen.XoIdeal.Skeleton
public import proofs.«01_k».proof.Proof.Gen.XoIdeal.Frame
public import proofs.«01_k».proof.Proof.Gen.XoIdeal.Value
public import proofs.«01_k».proof.Proof.Gen.XoRefIdeal
public import proofs.«01_k».proof.Proof.Gen.XoRefIdeal.Run
public import proofs.«01_k».proof.Proof.Gen.Xattn
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Frame
public import proofs.«01_k».proof.Proof.Gen.XattnIdeal.Value
public import proofs.«01_k».proof.Proof.Gen.XattnRefIdeal
public import proofs.«01_k».proof.Proof.Gen.XattnRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.RetLoop
public import proofs.«01_k».proof.Proof.RetKernel
public import proofs.«01_k».proof.Proof.InValue
public import proofs.«01_k».proof.Proof.InRef
public import proofs.«01_k».proof.Proof.MemValue
public import proofs.«01_k».proof.Proof.PqValue
public import proofs.«01_k».proof.Proof.XqValue
public import proofs.«01_k».proof.Proof.OutValue
public import proofs.«01_k».proof.Proof.XoValue
public import proofs.«01_k».proof.Proof.ProdRef
public import proofs.«01_k».proof.Proof.XattnValue
public import proofs.«01_k».proof.Proof.XattnRef
public import proofs.«01_k».proof.Proof.MixValue
public import proofs.«01_k».proof.Proof.MixRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The retention's runs at the ideal instance end with the same outputs and the same final states. -/
theorem retention_eq [hKernelIdeal : Cert.KernelIdeal.Facts] [hReferenceIdeal : Cert.ReferenceIdeal.Facts] :
    Cert.algebraic_KernelIdeal_ReferenceIdeal := by
  intro m ρ m' ρ' _ hag
  have hz : ∀ c : Dev Cert.KernelIdeal.nD, Cert.RetRef.zR m' c = Cert.RetKernel.zK m c := fun c => by
    unfold Cert.RetRef.zR Cert.RetKernel.zK
    rw [hag c]
  refine ⟨fun c => Cert.KernelIdeal.Value.G9 m c, fun c => Cert.KernelIdeal.Value.G10 m c, Cert.KernelIdeal.Value.run m ρ,
    (θ_run _ _ _).mono (fun r h c => ⟨(h c).1.trans ?_, (h c).2.1.trans ?_, (h c).2.2⟩) (Cert.ReferenceIdeal.Value.run m' ρ')⟩
  · refine funext fun (j : S4x2048x1024.Idx) => ?_
    obtain ⟨b, t, e, rfl⟩ : ∃ (b : Fin 4) (t : Fin 2048) (e : Fin 1024), j = ix3 b t e := ⟨j 0, j 1, j 2, eq_ix3 j⟩
    exact ((Cert.RetRef.out_at m' c b t e).trans (by rw [hz c])).trans (Cert.RetKernel.G9_at m c b t e).symm
  · refine funext fun (j : S4x8x128x128.Idx) => ?_
    obtain ⟨b, h, d, w, rfl⟩ : ∃ (b : Fin 4) (h : Fin 8) (d w : Fin 128), j = ix4 b h d w := ⟨j 0, j 1, j 2, j 3, eq_ix4 j⟩
    exact ((Cert.RetRef.trips_state m' c 16 le_rfl b h d w).trans (by rw [hz c])).trans (Cert.RetKernel.G10_at m c b h d w).symm

/-- The reference of the retention runs, leaves its argument unchanged and uses no semaphore. -/
theorem retention_ref [hReferenceIdeal : Cert.ReferenceIdeal.Facts] : Cert.quiescent_ReferenceIdeal := fun m ρ _ =>
  (θ_run _ _ _).mono (fun r h => ⟨fun c => (h c).2.2, sem_eq_zero_of_no_sems (by decide) r.2⟩) (Cert.ReferenceIdeal.Value.run m ρ)

/-- The input projection's kernel and reference end with the same projection and the same stacks of keys and of values. -/
theorem in_eq [hInProjIdeal : Cert.InProjIdeal.Facts] [hInRefIdeal : Cert.InRefIdeal.Facts] :
    Cert.algebraic_InProjIdeal_InRefIdeal := by
  intro m ρ m' ρ' _ hag
  refine ⟨fun c => Cert.InValue.G0 m c, fun c => Cert.InValue.GS m c 5120 (by decide), fun c => Cert.InValue.GS m c 6144 (by decide), Cert.InValue.run m ρ,
    (θ_run _ _ _).mono (fun r h c => ⟨(h c).1.trans ?_, (h c).2.1.trans ?_, (h c).2.2.1.trans ?_, (h c).2.2.2⟩) (Cert.InRef.run m' ρ')⟩
  all_goals
    unfold Cert.InRef.xR Cert.InRef.gR Cert.InRef.wR
    rw [(hag c).1, (hag c).2.1, (hag c).2.2]
    rfl

/-- The input projection's two programs call the same bodies. -/
theorem in_bodies [hInProj : Cert.InProj.Facts] : Cert.InProj.defs₀ (F := Bits) = Cert.InProjIdeal.defs₀ := by
  unfold Cert.InProj.defs₀ Cert.InProjIdeal.defs₀
  refine congrArg Defs.onTc (funext fun l => funext fun a => ?_)
  match l, a with
  | 0, (t, s) => rfl

theorem in_defs [hInProj : Cert.InProj.Facts] : Cert.InProj.defs (F := Bits) = Cert.InProjIdeal.defs := by
  unfold Cert.InProj.defs Cert.InProjIdeal.defs
  rw [in_bodies]
  rfl

/-- So the frame of the one is that of the other. -/
theorem in_frame [hInProj : Cert.InProj.Facts] : Cert.quiescent_InProj := fun m ρ _ => by
  rw [in_defs]
  exact (θ_run Cert.InProjIdeal.defs _ _).mono (fun _ h => h) (Cert.InRun.frame (F := Bits) m ρ)

/-- The reference of the input projection runs, leaves its arguments unchanged and uses no semaphore. -/
theorem in_ref [hInRefIdeal : Cert.InRefIdeal.Facts] : Cert.quiescent_InRefIdeal := fun m ρ _ =>
  (θ_run _ _ _).mono (fun r h => ⟨fun c => (h c).2.2.2, sem_eq_zero_of_no_sems (by decide) r.2⟩) (Cert.InRefIdeal.Value.run m ρ)

/-! The five products: each kernel's run and its reference's end with the product's formula at the arguments, which agree. -/

theorem mem_eq [hMemKvIdeal : Cert.MemKvIdeal.Facts] [hMemKvRefIdeal : Cert.MemKvRefIdeal.Facts] : Cert.algebraic_MemKvIdeal_MemKvRefIdeal := by
  intro m ρ m' ρ' _ hag
  refine ⟨fun c => Cert.ProdSpec.mem (Cert.MemValue.xK m c) (Cert.MemValue.wK m c), Cert.MemValue.run m ρ,
    (θ_run _ _ _).mono (fun r h c => ⟨((h c).1.trans (Cert.ProdRef.mem _ _)).trans ?_, (h c).2⟩) (Cert.MemKvRefIdeal.Value.run m' ρ')⟩
  rw [(hag c).1, (hag c).2]

theorem mem_ref [hMemKvRefIdeal : Cert.MemKvRefIdeal.Facts] : Cert.quiescent_MemKvRefIdeal := fun m ρ _ =>
  (θ_run _ _ _).mono (fun r h => ⟨fun c => (h c).2, sem_eq_zero_of_no_sems (by decide) r.2⟩) (Cert.MemKvRefIdeal.Value.run m ρ)

theorem pq_eq [hPqIdeal : Cert.PqIdeal.Facts] [hPqRefIdeal : Cert.PqRefIdeal.Facts] : Cert.algebraic_PqIdeal_PqRefIdeal := by
  intro m ρ m' ρ' _ hag
  refine ⟨fun c => Cert.ProdSpec.pq (Cert.PqValue.xK m c) (Cert.PqValue.gK m c) (Cert.PqValue.wK m c), Cert.PqValue.run m ρ,
    (θ_run _ _ _).mono (fun r h c => ⟨((h c).1.trans (Cert.ProdRef.pq _ _ _)).trans ?_, (h c).2⟩) (Cert.PqRefIdeal.Value.run m' ρ')⟩
  rw [(hag c).1, (hag c).2.1, (hag c).2.2]

theorem pq_ref [hPqRefIdeal : Cert.PqRefIdeal.Facts] : Cert.quiescent_PqRefIdeal := fun m ρ _ =>
  (θ_run _ _ _).mono (fun r h => ⟨fun c => (h c).2, sem_eq_zero_of_no_sems (by decide) r.2⟩) (Cert.PqRefIdeal.Value.run m ρ)

theorem xq_eq [hXqIdeal : Cert.XqIdeal.Facts] [hXqRefIdeal : Cert.XqRefIdeal.Facts] : Cert.algebraic_XqIdeal_XqRefIdeal := by
  intro m ρ m' ρ' _ hag
  refine ⟨fun c => Cert.ProdSpec.xq (Cert.XqValue.xK m c) (Cert.XqValue.gK m c) (Cert.XqValue.wK m c), Cert.XqValue.run m ρ,
    (θ_run _ _ _).mono (fun r h c => ⟨((h c).1.trans (Cert.ProdRef.xq _ _ _)).trans ?_, (h c).2⟩) (Cert.XqRefIdeal.Value.run m' ρ')⟩
  rw [(hag c).1, (hag c).2.1, (hag c).2.2]

theorem xq_ref [hXqRefIdeal : Cert.XqRefIdeal.Facts] : Cert.quiescent_XqRefIdeal := fun m ρ _ =>
  (θ_run _ _ _).mono (fun r h => ⟨fun c => (h c).2, sem_eq_zero_of_no_sems (by decide) r.2⟩) (Cert.XqRefIdeal.Value.run m ρ)

theorem out_eq [hOutIdeal : Cert.OutIdeal.Facts] [hOutRefIdeal : Cert.OutRefIdeal.Facts] : Cert.algebraic_OutIdeal_OutRefIdeal := by
  intro m ρ m' ρ' _ hag
  refine ⟨fun c => Cert.ProdSpec.out (Cert.OutValue.xK m c) (Cert.OutValue.oK m c) (Cert.OutValue.wK m c), Cert.OutValue.run m ρ,
    (θ_run _ _ _).mono (fun r h c => ⟨((h c).1.trans (Cert.ProdRef.out _ _ _)).trans ?_, (h c).2⟩) (Cert.OutRefIdeal.Value.run m' ρ')⟩
  rw [(hag c).1, (hag c).2.1, (hag c).2.2]

theorem out_ref [hOutRefIdeal : Cert.OutRefIdeal.Facts] : Cert.quiescent_OutRefIdeal := fun m ρ _ =>
  (θ_run _ _ _).mono (fun r h => ⟨fun c => (h c).2, sem_eq_zero_of_no_sems (by decide) r.2⟩) (Cert.OutRefIdeal.Value.run m ρ)

theorem xo_eq [hXoIdeal : Cert.XoIdeal.Facts] [hXoRefIdeal : Cert.XoRefIdeal.Facts] : Cert.algebraic_XoIdeal_XoRefIdeal := by
  intro m ρ m' ρ' _ hag
  refine ⟨fun c => Cert.ProdSpec.xo (Cert.XoValue.xK m c) (Cert.XoValue.oK m c) (Cert.XoValue.wK m c), Cert.XoValue.run m ρ,
    (θ_run _ _ _).mono (fun r h c => ⟨((h c).1.trans (Cert.ProdRef.xo _ _ _)).trans ?_, (h c).2⟩) (Cert.XoRefIdeal.Value.run m' ρ')⟩
  rw [(hag c).1, (hag c).2.1, (hag c).2.2]

theorem xo_ref [hXoRefIdeal : Cert.XoRefIdeal.Facts] : Cert.quiescent_XoRefIdeal := fun m ρ _ =>
  (θ_run _ _ _).mono (fun r h => ⟨fun c => (h c).2, sem_eq_zero_of_no_sems (by decide) r.2⟩) (Cert.XoRefIdeal.Value.run m ρ)

theorem xattn_eq [hXattnIdeal : Cert.XattnIdeal.Facts] [hXattnRefIdeal : Cert.XattnRefIdeal.Facts] : Cert.algebraic_XattnIdeal_XattnRefIdeal := by
  intro m ρ m' ρ' _ hag
  refine ⟨fun c => Cert.XattnSpec.att (Cert.XattnValue.qK m c) (Cert.XattnValue.kK m c) (Cert.XattnValue.vK m c), Cert.XattnValue.run m ρ,
    (θ_run _ _ _).mono (fun r h c => ⟨((h c).1.trans (Cert.XattnRef.att _ _ _)).trans ?_, (h c).2⟩) (Cert.XattnRefIdeal.Value.run m' ρ')⟩
  rw [(hag c).1, (hag c).2.1, (hag c).2.2]

theorem xattn_ref [hXattnRefIdeal : Cert.XattnRefIdeal.Facts] : Cert.quiescent_XattnRefIdeal := fun m ρ _ =>
  (θ_run _ _ _).mono (fun r h => ⟨fun c => (h c).2, sem_eq_zero_of_no_sems (by decide) r.2⟩) (Cert.XattnRefIdeal.Value.run m ρ)

theorem mix_eq [hMixIdeal : Cert.MixIdeal.Facts] [hMixRefIdeal : Cert.MixRefIdeal.Facts] : Cert.algebraic_MixIdeal_MixRefIdeal := by
  intro m ρ m' ρ' _ hag
  refine ⟨fun c => Cert.MixSpec.mix (Cert.MixValue.zK m c) (Cert.MixValue.roK m c) (Cert.MixValue.doK m c) (Cert.MixValue.rgK m c) (Cert.MixValue.dgK m c) (Cert.MixValue.waK m c) (Cert.MixValue.wbK m c), Cert.MixValue.run m ρ,
    (θ_run _ _ _).mono (fun r h c => ⟨((h c).1.trans (Cert.MixRef.mix _ _ _ _ _ _ _)).trans ?_, (h c).2⟩) (Cert.MixRefIdeal.Value.run m' ρ')⟩
  rw [(hag c).1, (hag c).2.1, (hag c).2.2.1, (hag c).2.2.2.1, (hag c).2.2.2.2.1, (hag c).2.2.2.2.2.1, (hag c).2.2.2.2.2.2]

theorem mix_ref [hMixRefIdeal : Cert.MixRefIdeal.Facts] : Cert.quiescent_MixRefIdeal := fun m ρ _ =>
  (θ_run _ _ _).mono (fun r h => ⟨fun c => (h c).2, sem_eq_zero_of_no_sems (by decide) r.2⟩) (Cert.MixRefIdeal.Value.run m ρ)

theorem claim : Cert.Claim := ⟨Cert.Kernel.Gen.facts, Cert.KernelIdeal.Gen.facts, Cert.ReferenceIdeal.Gen.facts,
  Cert.InProj.Gen.facts, Cert.InProjIdeal.Gen.facts, Cert.InRefIdeal.Gen.facts,
  Cert.MemKv.Gen.facts, Cert.MemKvIdeal.Gen.facts, Cert.MemKvRefIdeal.Gen.facts,
  Cert.Pq.Gen.facts, Cert.PqIdeal.Gen.facts, Cert.PqRefIdeal.Gen.facts,
  Cert.Xq.Gen.facts, Cert.XqIdeal.Gen.facts, Cert.XqRefIdeal.Gen.facts,
  Cert.Out.Gen.facts, Cert.OutIdeal.Gen.facts, Cert.OutRefIdeal.Gen.facts,
  Cert.Xo.Gen.facts, Cert.XoIdeal.Gen.facts, Cert.XoRefIdeal.Gen.facts,
  Cert.Xattn.Gen.facts, Cert.XattnIdeal.Gen.facts, Cert.XattnRefIdeal.Gen.facts,
  Cert.Mix.Gen.facts, Cert.MixIdeal.Gen.facts, Cert.MixRefIdeal.Gen.facts,
  fun m ρ _ => Cert.Kernel.Gen.frame m ρ, fun m ρ _ => Cert.KernelIdeal.Gen.frame m ρ, retention_ref,
  in_frame, fun m ρ _ => Cert.InRun.frame (F := Ideal) m ρ, in_ref,
  fun m ρ _ => Cert.MemKv.Gen.frame m ρ, fun m ρ _ => Cert.MemKvIdeal.Gen.frame m ρ, mem_ref,
  fun m ρ _ => Cert.Pq.Gen.frame m ρ, fun m ρ _ => Cert.PqIdeal.Gen.frame m ρ, pq_ref,
  fun m ρ _ => Cert.Xq.Gen.frame m ρ, fun m ρ _ => Cert.XqIdeal.Gen.frame m ρ, xq_ref,
  fun m ρ _ => Cert.Out.Gen.frame m ρ, fun m ρ _ => Cert.OutIdeal.Gen.frame m ρ, out_ref,
  fun m ρ _ => Cert.Xo.Gen.frame m ρ, fun m ρ _ => Cert.XoIdeal.Gen.frame m ρ, xo_ref,
  fun m ρ _ => Cert.Xattn.Gen.frame m ρ, fun m ρ _ => Cert.XattnIdeal.Gen.frame m ρ, xattn_ref,
  fun m ρ _ => Cert.Mix.Gen.frame m ρ, fun m ρ _ => Cert.MixIdeal.Gen.frame m ρ, mix_ref,
  trivial, retention_eq, trivial, in_eq, trivial, mem_eq, trivial, pq_eq, trivial, xq_eq, trivial, out_eq, trivial, xo_eq, trivial, xattn_eq, trivial, mix_eq⟩

end Cert.Proof

end
